-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))).1 = (fun _ => 1#1)
    ∧ (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))).2.1 = (fun _ => 1#1)
    ∧ (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1))).2.2 = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S1024x32 : Shape := ⟨2, ![1024, 32]⟩
abbrev S100000x32 : Shape := ⟨2, ![100000, 32]⟩
abbrev S_ : Shape := ⟨0, ![]⟩
abbrev S1024 : Shape := ⟨1, ![1024]⟩
abbrev S1024x1 : Shape := ⟨2, ![1024, 1]⟩
abbrev S100000 : Shape := ⟨1, ![100000]⟩
abbrev S100000x1 : Shape := ⟨2, ![100000, 1]⟩
abbrev S1x100000 : Shape := ⟨2, ![1, 100000]⟩
abbrev S1024x100000 : Shape := ⟨2, ![1024, 100000]⟩
abbrev S32x100000 : Shape := ⟨2, ![32, 100000]⟩
abbrev S1024x5x2500x8 : Shape := ⟨4, ![1024, 5, 2500, 8]⟩
abbrev S1024x5x8 : Shape := ⟨3, ![1024, 5, 8]⟩
abbrev S1024x5x1x8 : Shape := ⟨4, ![1024, 5, 1, 8]⟩

class Facts : Prop where
  reducesTo_S1024x32_S1024_d1 : S1024x32.ReducesTo [1] S1024
  h_S_ : 0 < S_.numel
  bcast_S1024_S1024x1_0 : S1024.BroadcastsInDim S1024x1 (![0] : Fin 1 → Fin S1024x1.rank)
  reducesTo_S100000x32_S100000_d1 : S100000x32.ReducesTo [1] S100000
  bcast_S100000_S100000x1_0 : S100000.BroadcastsInDim S100000x1 (![0] : Fin 1 → Fin S100000x1.rank)
  transposes_S100000x1_S1x100000_1_0 : S100000x1.Transposes [1, 0] S1x100000
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  transposes_S100000x32_S32x100000_1_0 : S100000x32.Transposes [1, 0] S32x100000
  bcast_S_S1024x100000 : S_.BroadcastsInDim S1024x100000 (![] : Fin 0 → Fin S1024x100000.rank)
  shapeCasts_S1024x100000_S1024x5x2500x8 : S1024x100000.ShapeCasts S1024x5x2500x8
  reducesTo_S1024x5x2500x8_S1024x5x8_d2 : S1024x5x2500x8.ReducesTo [2] S1024x5x8
  bcast_S1024x5x8_S1024x5x1x8_0_1_3 : S1024x5x8.BroadcastsInDim S1024x5x1x8 (![0, 1, 3] : Fin 3 → Fin S1024x5x1x8.rank)
  bcast_S1024x5x1x8_S1024x5x2500x8_0_1_2_3 : S1024x5x1x8.BroadcastsInDim S1024x5x2500x8 (![0, 1, 2, 3] : Fin 4 → Fin S1024x5x2500x8.rank)
  natLt_1_32 : 1 < 32
  bcast_S_S1024x5x8 : S_.BroadcastsInDim S1024x5x8 (![] : Fin 0 → Fin S1024x5x8.rank)
  bcast_S_S1024x32 : S_.BroadcastsInDim S1024x32 (![] : Fin 0 → Fin S1024x32.rank)
  reducesTo_S1024x32_S_d0_1 : S1024x32.ReducesTo [0, 1] S_
  bcast_S_S100000x32 : S_.BroadcastsInDim S100000x32 (![] : Fin 0 → Fin S100000x32.rank)
  reducesTo_S100000x32_S_d0_1 : S100000x32.ReducesTo [0, 1] S_
  dot_S1024x32_S32x100000_S1024x100000_1_0_0_1_n_n_wf : DotDims.WF S1024x32 S32x100000 S1024x100000 [1] [0] [0] [1] [] []

variable [Facts]

def dot_S1024x32_S32x100000_S1024x100000_1_0_0_1_n_n : DotDims S1024x32 S32x100000 S1024x100000 where
  lhsContracting := [1]
  rhsContracting := [0]
  lhsNonContracting := [0]
  rhsNonContracting := [1]
  lhsBatch := []
  rhsBatch := []
  wf := dot_S1024x32_S32x100000_S1024x100000_1_0_0_1_n_n_wf
def fn_part1 {F : FTy → Type} [FloatOps F] (main_arg0 : FVec F S1024x32 .f32) (main_arg1 : FVec F S100000x32 .f32) (main_v19 : IVec S1024x5x2500x8 1) : IVec S_ 1 × IVec S_ 1 × IVec S1024x5x8 1 :=
  let main_v20 : IVec S1024x5x2500x8 32 := (extui 32 · natLt_1_32) main_v19
  let main_c : IVec S_ 32 := constantI S_ 32 0#32
  let main_v21 : IVec S1024x5x8 32 := (fun x v => Host.reduce IntOp.addi x v reducesTo_S1024x5x2500x8_S1024x5x8_d2 h_S_) main_v20 main_c
  let main_c_3 : IVec S_ 32 := constantI S_ 32 1#32
  let main_v22 : IVec S1024x5x8 32 := broadcastInDim S1024x5x8 ![] bcast_S_S1024x5x8 main_c_3
  let main_v23 : IVec S1024x5x8 1 := cmpi .eq main_v21 main_v22
  let main_v24 : FVec F S1024x32 .f32 := Host.absf main_arg0
  let main_cst_4 : FVec F S_ .f32 := constant S_ .f32 0x7F800000#32
  let main_v25 : FVec F S1024x32 .f32 := broadcastInDim S1024x32 ![] bcast_S_S1024x32 main_cst_4
  let main_v26 : IVec S1024x32 1 := cmpf .olt main_v24 main_v25
  let main_c_5 : IVec S_ 1 := constantI S_ 1 1#1
  let main_v27 : IVec S_ 1 := (fun x v => Host.reduce IntOp.andi x v reducesTo_S1024x32_S_d0_1 h_S_) main_v26 main_c_5
  let main_v28 : FVec F S100000x32 .f32 := Host.absf main_arg1
  let main_cst_6 : FVec F S_ .f32 := constant S_ .f32 0x7F800000#32
  let main_v29 : FVec F S100000x32 .f32 := broadcastInDim S100000x32 ![] bcast_S_S100000x32 main_cst_6
  let main_v30 : IVec S100000x32 1 := cmpf .olt main_v28 main_v29
  let main_c_7 : IVec S_ 1 := constantI S_ 1 1#1
  let main_v31 : IVec S_ 1 := (fun x v => Host.reduce IntOp.andi x v reducesTo_S100000x32_S_d0_1 h_S_) main_v30 main_c_7
  (main_v27, main_v31, main_v23)

def fn {F : FTy → Type} [FloatOps F] (main_arg0 : FVec F S1024x32 .f32) (main_arg1 : FVec F S100000x32 .f32) : IVec S_ 1 × IVec S_ 1 × IVec S1024x5x8 1 :=
  let main_v0 : FVec F S1024x32 .f32 := mulf main_arg0 main_arg0
  let main_cst : FVec F S_ .f32 := constant S_ .f32 0x00000000#32
  let main_v1 : FVec F S1024 .f32 := (fun x v => Host.reduceAdd x v reducesTo_S1024x32_S1024_d1 h_S_) main_v0 main_cst
  let main_v2 : FVec F S1024x1 .f32 := broadcastInDim S1024x1 ![0] bcast_S1024_S1024x1_0 main_v1
  let main_v3 : FVec F S100000x32 .f32 := mulf main_arg1 main_arg1
  let main_cst_0 : FVec F S_ .f32 := constant S_ .f32 0x00000000#32
  let main_v4 : FVec F S100000 .f32 := (fun x v => Host.reduceAdd x v reducesTo_S100000x32_S100000_d1 h_S_) main_v3 main_cst_0
  let main_v5 : FVec F S100000x1 .f32 := broadcastInDim S100000x1 ![0] bcast_S100000_S100000x1_0 main_v4
  let main_v6 : FVec F S1x100000 .f32 := (transpose S1x100000 [1, 0] · transposes_S100000x1_S1x100000_1_0) main_v5
  let main_v7 : FVec F S1024x100000 .f32 := broadcastInDim S1024x100000 ![0, 1] bcast_S1024x1_S1024x100000_0_1 main_v2
  let main_v8 : FVec F S1024x100000 .f32 := broadcastInDim S1024x100000 ![0, 1] bcast_S1x100000_S1024x100000_0_1 main_v6
  let main_v9 : FVec F S1024x100000 .f32 := addf main_v7 main_v8
  let main_v10 : FVec F S32x100000 .f32 := (transpose S32x100000 [1, 0] · transposes_S100000x32_S32x100000_1_0) main_arg1
  let main_v11 : FVec F S1024x100000 .f32 := (fun l r => Host.dotGeneral dot_S1024x32_S32x100000_S1024x100000_1_0_0_1_n_n none l r) main_arg0 main_v10
  let main_cst_1 : FVec F S_ .f32 := constant S_ .f32 0x40000000#32
  let main_v12 : FVec F S1024x100000 .f32 := broadcastInDim S1024x100000 ![] bcast_S_S1024x100000 main_cst_1
  let main_v13 : FVec F S1024x100000 .f32 := mulf main_v12 main_v11
  let main_v14 : FVec F S1024x100000 .f32 := subf main_v9 main_v13
  let main_v15 : FVec F S1024x5x2500x8 .f32 := shapeCast S1024x5x2500x8 main_v14 shapeCasts_S1024x100000_S1024x5x2500x8
  let main_cst_2 : FVec F S_ .f32 := constant S_ .f32 0x7F800000#32
  let main_v16 : FVec F S1024x5x8 .f32 := (fun x v => Host.reduce FloatOps.minimumf x v reducesTo_S1024x5x2500x8_S1024x5x8_d2 h_S_) main_v15 main_cst_2
  let main_v17 : FVec F S1024x5x1x8 .f32 := broadcastInDim S1024x5x1x8 ![0, 1, 3] bcast_S1024x5x8_S1024x5x1x8_0_1_3 main_v16
  let main_v18 : FVec F S1024x5x2500x8 .f32 := broadcastInDim S1024x5x2500x8 ![0, 1, 2, 3] bcast_S1024x5x1x8_S1024x5x2500x8_0_1_2_3 main_v17
  let main_v19 : IVec S1024x5x2500x8 1 := cmpf .oeq main_v15 main_v18
  fn_part1 (F := F) main_arg0 main_arg1 main_v19
-- ==== Kernel.lean ====
abbrev S1024x32 : Shape := ⟨2, ![1024, 32]⟩
abbrev S100000x32 : Shape := ⟨2, ![100000, 32]⟩
abbrev S32x1024 : Shape := ⟨2, ![32, 1024]⟩
abbrev S_ : Shape := ⟨0, ![]⟩
abbrev S1024 : Shape := ⟨1, ![1024]⟩
abbrev S1x1024 : Shape := ⟨2, ![1, 1024]⟩
abbrev S20000x32 : Shape := ⟨2, ![20000, 32]⟩
abbrev S20000x1024 : Shape := ⟨2, ![20000, 1024]⟩
abbrev S20000 : Shape := ⟨1, ![20000]⟩
abbrev S20000x1 : Shape := ⟨2, ![20000, 1]⟩
abbrev S2500x8x1024 : Shape := ⟨3, ![2500, 8, 1024]⟩
abbrev S8x1024 : Shape := ⟨2, ![8, 1024]⟩
abbrev S1024x1 : Shape := ⟨2, ![1024, 1]⟩
abbrev S1024x2 : Shape := ⟨2, ![1024, 2]⟩

abbrev nBuf : Space → Nat
  | .hbm => 17
  | .vmem => 8
  | .smem => 0
  | _ => 0

abbrev bufTy : (tb : Table) → Fin (tcTables nBuf tb) → BufTy
  | .hbm, ⟨0, _⟩ => ⟨S1024x32, .f32⟩
  | .hbm, ⟨1, _⟩ => ⟨S100000x32, .f32⟩
  | .hbm, ⟨2, _⟩ => ⟨S32x1024, .f32⟩
  | .hbm, ⟨3, _⟩ => ⟨S_, .f32⟩
  | .hbm, ⟨4, _⟩ => ⟨S32x1024, .f32⟩
  | .hbm, ⟨5, _⟩ => ⟨S32x1024, .f32⟩
  | .hbm, ⟨6, _⟩ => ⟨S1024x32, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .i32⟩
  | .hbm, ⟨12, _⟩ => ⟨S1024x1, .f32⟩
  | .hbm, ⟨13, _⟩ => ⟨S1024, .i32⟩
  | .hbm, ⟨14, _⟩ => ⟨S1024x1, .i32⟩
  | .hbm, ⟨15, _⟩ => ⟨S1024x1, .i32⟩
  | .hbm, ⟨16, _⟩ => ⟨S1024x2, .i32⟩
  | .local _ .vmem, ⟨0, _⟩ => ⟨S32x1024, .f32⟩
  | .local _ .vmem, ⟨1, _⟩ => ⟨S20000x32, .f32⟩
  | .local _ .vmem, ⟨2, _⟩ => ⟨S20000x32, .f32⟩
  | .local _ .vmem, ⟨3, _⟩ => ⟨S1x1024, .f32⟩
  | .local _ .vmem, ⟨4, _⟩ => ⟨S1x1024, .f32⟩
  | .local _ .vmem, ⟨5, _⟩ => ⟨S1x1024, .i32⟩
  | .local _ .vmem, ⟨6, _⟩ => ⟨S1x1024, .f32⟩
  | .local _ .vmem, ⟨7, _⟩ => ⟨S1x1024, .i32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![5], ![false]⟩

def k0_cond3 (i : grid0.Coords) : BitVec 1 :=
  let arg0 : BitVec 32 := BitVec.ofNat 32 (i 0).val
  let c4_i32 : BitVec 32 := 4#32
  let v37 : BitVec 1 := Scalar.cmpi .eq arg0 c4_i32
  let v38 : BitVec 32 := Scalar.extui v37
  let c0_i32_12 : BitVec 32 := 0#32
  let v39 : BitVec 1 := Scalar.cmpi .ne v38 c0_i32_12
  v39

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S20000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1024x32 : Shape := ⟨2, ![1024, 32]⟩
abbrev S100000x32 : Shape := ⟨2, ![100000, 32]⟩
abbrev S_ : Shape := ⟨0, ![]⟩
abbrev S1024 : Shape := ⟨1, ![1024]⟩
abbrev S1024x1 : Shape := ⟨2, ![1024, 1]⟩
abbrev S100000 : Shape := ⟨1, ![100000]⟩
abbrev S100000x1 : Shape := ⟨2, ![100000, 1]⟩
abbrev S1x100000 : Shape := ⟨2, ![1, 100000]⟩
abbrev S1024x100000 : Shape := ⟨2, ![1024, 100000]⟩
abbrev S32x100000 : Shape := ⟨2, ![32, 100000]⟩
abbrev S1024x2 : Shape := ⟨2, ![1024, 2]⟩

abbrev nBuf : Space → Nat
  | .hbm => 37
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S100000x32, .f32⟩
  | .hbm, ⟨2, _⟩ => ⟨S1024x32, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S100000x32, .f32⟩
  | .hbm, ⟨7, _⟩ => ⟨S_, .f32⟩
  | .hbm, ⟨8, _⟩ => ⟨S100000, .f32⟩
  | .hbm, ⟨9, _⟩ => ⟨S100000x1, .f32⟩
  | .hbm, ⟨10, _⟩ => ⟨S1x100000, .f32⟩
  | .hbm, ⟨11, _⟩ => ⟨S1024x100000, .f32⟩
  | .hbm, ⟨12, _⟩ => ⟨S1024x100000, .f32⟩
  | .hbm, ⟨13, _⟩ => ⟨S1024x100000, .f32⟩
  | .hbm, ⟨14, _⟩ => ⟨S32x100000, .f32⟩
  | .hbm, ⟨15, _⟩ => ⟨S1024x100000, .f32⟩
  | .hbm, ⟨16, _⟩ => ⟨S_, .f32⟩
  | .hbm, ⟨17, _⟩ => ⟨S1024x100000, .f32⟩
  | .hbm, ⟨18, _⟩ => ⟨S1024x100000, .f32⟩
  | .hbm, ⟨19, _⟩ => ⟨S1024x100000, .f32⟩
  | .hbm, ⟨20, _⟩ => ⟨S_, .f32⟩
  | .hbm, ⟨21, _⟩ => ⟨S_, .f32⟩
  | .hbm, ⟨22, _⟩ => ⟨S1024x100000, .f32⟩
  | .hbm, ⟨23, _⟩ => ⟨S1024x100000, .f32⟩
  | .hbm, ⟨24, _⟩ => ⟨S1024x100000, .f32⟩
  | .hbm, ⟨25, _⟩ => ⟨S_, .f32⟩
  | .hbm, ⟨26, _⟩ => ⟨S1024, .f32⟩
  | .hbm, ⟨27, _⟩ => ⟨S1024x100000, .i32⟩
  | .hbm, ⟨28, _⟩ => ⟨S_, .f32⟩
  | .hbm, ⟨29, _⟩ => ⟨S_, .i32⟩
  | .hbm, ⟨30, _⟩ => ⟨S1024, .f32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S1024x1, .i32⟩
  | .hbm, ⟨35, _⟩ => ⟨S1024x2, .i32⟩
  | .hbm, ⟨36, _⟩ => ⟨S1024x1, .f32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_call1_v0 : Ref sig .tc := ⟨.hbm, 27, rfl⟩
abbrev main_call1_cst : Ref sig .tc := ⟨.hbm, 28, rfl⟩
abbrev main_call1_c : Ref sig .tc := ⟨.hbm, 29, rfl⟩
abbrev main_call1_v1_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.KernelRun.lean ====
/-
  The kernel's run: what the two carried rows (the least score so far, and where it was first met) hold after each grid
  point, and the two result arrays after the host lines that follow the grid.
-/
module

public import proofs.«01_k».proof.Defs
public import proofs.«01_k».proof.Proof.Gen.KernelIdeal.Frame
public import Idealize.ShloMosaic.Lib.Claim
public import Idealize.ShloMosaic.Lib.Pipeline.ValueKit
public import Idealize.ShloMosaic.Lib.Pipeline.ReadBack

@[expose] public section

set_option maxRecDepth 16384

noncomputable section

namespace Cert.KernelSide

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The row of least scores of block `t`. -/
abbrev blockMin (c : Dev nD) (t : Fin cfg0.N) : Vec Ideal S1x1024 .f32 := k0_pay6 (iblk m c 0 t) (iblk m c 1 t) (iblk m c 2 t)

/-- The row of their first positions. -/
abbrev blockIdx (c : Dev nD) (t : Fin cfg0.N) : Vec Ideal S1x1024 .i32 := k0_pay7 (grid0.coords t) (iblk m c 0 t) (iblk m c 1 t) (iblk m c 2 t)

/-- The carried row of scores after point `n`. -/
abbrev accMin (c : Dev nD) (n : ℕ) (h : n < cfg0.N) : Vec Ideal S1x1024 .f32 := (outsAt0 m c n h).2.2.1

/-- The carried row of positions after point `n`. -/
abbrev accIdx (c : Dev nD) (n : ℕ) (h : n < cfg0.N) : Vec Ideal S1x1024 .i32 := (outsAt0 m c n h).2.2.2

theorem first_min (c : Dev nD) (t : Fin cfg0.N) (h0 : t.val % 5 = 0) (h1 : ¬1 ≤ t.val) (h2 : ¬t.val % 5 = 4) :
    accMin m c t.val t.isLt = blockMin m c t := by
  unfold accMin
  rw [outsAt0_A m c t h0 h1 h2]
  funext y
  frame_out

theorem first_idx (c : Dev nD) (t : Fin cfg0.N) (h0 : t.val % 5 = 0) (h1 : ¬1 ≤ t.val) (h2 : ¬t.val % 5 = 4) :
    accIdx m c t.val t.isLt = blockIdx m c t := by
  unfold accIdx
  rw [outsAt0_A m c t h0 h1 h2]
  funext y
  frame_out

theorem next_min (c : Dev nD) (t : Fin cfg0.N) (h0 : ¬t.val % 5 = 0) (h1 : 1 ≤ t.val) :
    accMin m c t.val t.isLt = k0_pay9 (iblk m c 0 t) (iblk m c 1 t) (iblk m c 2 t)
      (accMin m c (t.val - 1) (Nat.lt_of_le_of_lt (Nat.sub_le _ _) t.isLt)) (accMin m c (t.val - 1) (Nat.lt_of_le_of_lt (Nat.sub_le _ _) t.isLt)) := by
  unfold accMin
  by_cases h2 : t.val % 5 = 4
  · rw [outsAt0_C m c t h0 h1 h2]
    funext y
    frame_out
    simp only [read_unread_whole]
  · rw [outsAt0_B m c t h0 h1 h2]
    funext y
    frame_out
    simp only [read_unread_whole]

theorem next_idx (c : Dev nD) (t : Fin cfg0.N) (h0 : ¬t.val % 5 = 0) (h1 : 1 ≤ t.val) :
    accIdx m c t.val t.isLt = k0_pay10 (grid0.coords t) (iblk m c 0 t) (iblk m c 1 t) (iblk m c 2 t)
      (accMin m c (t.val - 1) (Nat.lt_of_le_of_lt (Nat.sub_le _ _) t.isLt)) (accIdx m c (t.val - 1) (Nat.lt_of_le_of_lt (Nat.sub_le _ _) t.isLt)) := by
  unfold accMin accIdx
  by_cases h2 : t.val % 5 = 4
  · rw [outsAt0_C m c t h0 h1 h2]
    funext y
    frame_out
    simp only [read_unread_whole]
  · rw [outsAt0_B m c t h0 h1 h2]
    funext y
    frame_out
    simp only [read_unread_whole]

/-- At the last point the first result block is the root of the carried row, clipped at zero. -/
theorem last_min (c : Dev nD) (t : Fin cfg0.N) (h0 : ¬t.val % 5 = 0) (h1 : 1 ≤ t.val) (h2 : t.val % 5 = 4) :
    (outsAt0 m c t.val t.isLt).1 = k0_pay1 (accMin m c t.val t.isLt) := by
  rw [next_min m c t h0 h1]
  unfold accMin
  rw [outsAt0_C m c t h0 h1 h2]
  funext y
  frame_out
  simp only [read_unread_whole]

/-- At the last point the second result block is the carried row of positions. -/
theorem last_idx (c : Dev nD) (t : Fin cfg0.N) (h0 : ¬t.val % 5 = 0) (h1 : 1 ≤ t.val) (h2 : t.val % 5 = 4) :
    (outsAt0 m c t.val t.isLt).2.1 = accIdx m c t.val t.isLt := by
  rw [next_idx m c t h0 h1]
  unfold accMin accIdx
  rw [outsAt0_C m c t h0 h1 h2]
  funext y
  frame_out
  simp only [read_unread_whole]

/-- The grid's last point. -/
theorem last_lt : 4 < cfg0.N := lt_of_lt_of_eq (by decide) N_0.symm

/-- The first result array: written back once, after the last point. -/
theorem array_min (c : Dev nD) : (dats m 0 c).arrAt 3 (cfgs 0).N = (k0_pay1 (accMin m c 4 last_lt) : Vec Ideal S1x1024 .f32) := by
  refine (dats m 0 c).arrAt_eq_of_after_last 3 t0_4 (by decide +kernel) _ fun j => ?_
  blk_simp
  rw [after0_3]
  exact congrFun (last_min m c t0_4 (by decide) (by decide) (by decide)) j

/-- The second result array, likewise. -/
theorem array_idx (c : Dev nD) : (dats m 0 c).arrAt 4 (cfgs 0).N = (accIdx m c 4 last_lt : Vec Ideal S1x1024 .i32) := by
  refine (dats m 0 c).arrAt_eq_of_after_last 4 t0_4 (by decide +kernel) _ fun j => ?_
  blk_simp
  rw [after0_4]
  exact congrFun (last_idx m c t0_4 (by decide) (by decide) (by decide)) j

/-- The first result: the row of roots as a column. -/
def out0 (c : Dev nD) : FVec Ideal S1024x1 .f32 := shapeCast S1024x1 (k0_pay1 (accMin m c 4 last_lt)) shapeCasts_S1x1024_S1024x1

/-- The second result: each query's number beside its position. -/
def out1 (c : Dev nD) : IVec S1024x2 32 :=
  concatenate S1024x2 1 [⟨S1024x1, broadcastInDim S1024x1 ![0] bcast_S1024_S1024x1_0 (iotaInDim S1024 32 0)⟩,
    ⟨S1024x1, shapeCast S1024x1 (accIdx m c 4 last_lt : IVec S1x1024 32) shapeCasts_S1x1024_S1024x1⟩] concatenates_S1024x1_S1024x1_S1024x2_d1

/-- What the host lines after the grid start from, at the first result array. -/
theorem exit_min (c : Dev nD) : Pipeline.withArrays (cfgs 0).spec c (V0 m c) (fun w => (dats m 0 c).arrAt w (cfgs 0).N) (Proc.devRef .tc main_v6_0)
    = (k0_pay1 (accMin m c 4 last_lt) : Vec Ideal S1x1024 .f32) :=
  (Pipeline.withArrays_arr (cfgs 0).spec (by decide) c (V0 m c) (fun w => (dats m 0 c).arrAt w (cfgs 0).N) 3).trans (array_min m c)

/-- And at the second. -/
theorem exit_idx (c : Dev nD) : Pipeline.withArrays (cfgs 0).spec c (V0 m c) (fun w => (dats m 0 c).arrAt w (cfgs 0).N) (Proc.devRef .tc main_v6_1)
    = (accIdx m c 4 last_lt : Vec Ideal S1x1024 .i32) :=
  (Pipeline.withArrays_arr (cfgs 0).spec (by decide) c (V0 m c) (fun w => (dats m 0 c).arrAt w (cfgs 0).N) 4).trans (array_idx m c)

theorem tail_min (c : Dev nD) : Pipeline.afterTail₀ cfgs (dats m) 0 (V0 m) [hostOps1] c main_v7 = out0 m c := by
  unfold Pipeline.afterTail₀ out0
  rw [← exit_min m c]
  generalize Pipeline.withArrays (cfgs 0).spec c (V0 m c) (fun w => (dats m 0 c).arrAt w (cfgs 0).N) = σ
  simp only [hostOps1, List.flatten_cons, List.flatten_nil, List.append_nil]
  after_results
  rfl

theorem tail_idx (c : Dev nD) : Pipeline.afterTail₀ cfgs (dats m) 0 (V0 m) [hostOps1] c main_v11 = out1 m c := by
  unfold Pipeline.afterTail₀ out1
  rw [← exit_idx m c]
  generalize Pipeline.withArrays (cfgs 0).spec c (V0 m c) (fun w => (dats m 0 c).arrAt w (cfgs 0).N) = σ
  simp only [hostOps1, List.flatten_cons, List.flatten_nil, List.append_nil]
  after_results
  rfl

set_option maxHeartbeats 4000000 in
/-- The kernel's run. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v7) = out0 m c
      ∧ r.2.mem ((c.tc : Thread nD τ).loc main_v11) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m g
  · exact tail_min m c
  · exact tail_idx m c
  · exact W_main_arg0 m (dats m) c

end Cert.KernelSide

end
-- ==== Proof.FirstMin.lean ====
/-
  The first position of a least value on a stretch of the naturals: that it exists, how two neighbouring stretches combine
  under a strict comparison, how a stretch splits by the remainder of its positions, and what folds by minimum come to.
-/
module

public import Mathlib.Data.EReal.Basic
public import Mathlib.Data.Finset.Fold
public import Idealize.ShloMosaic.PureOps
public import Idealize.ShloMosaic.PureOps.Reduce

@[expose] public section

namespace Cert.FirstMin

open Idealize.ShloMosaic

/-- On the positions from `lo` up to `hi` the least value of `f` is `v`, and `j` is the first position that has it. -/
structure IsFirst (lo hi : ℕ) (f : ℕ → EReal) (v : EReal) (j : ℕ) : Prop where
  lower : lo ≤ j
  upper : j < hi
  here : f j = v
  least : ∀ k, lo ≤ k → k < hi → v ≤ f k
  first : ∀ k, lo ≤ k → k < j → v < f k

/-- A nonempty stretch has one. -/
theorem exists_isFirst (lo hi : ℕ) (h : lo < hi) (f : ℕ → EReal) : ∃ v j, IsFirst lo hi f v j := by
  classical
  obtain ⟨i, hi', hmin⟩ := Finset.exists_min_image (Finset.Ico lo hi) f ⟨lo, Finset.mem_Ico.2 ⟨le_refl _, h⟩⟩
  have hex : ∃ j, lo ≤ j ∧ j < hi ∧ f j = f i := ⟨i, (Finset.mem_Ico.1 hi').1, (Finset.mem_Ico.1 hi').2, rfl⟩
  obtain ⟨h1, h2, h3⟩ := Nat.find_spec hex
  refine ⟨f i, Nat.find hex, h1, h2, h3, fun k hk hk' => hmin k (Finset.mem_Ico.2 ⟨hk, hk'⟩), fun k hk hk' => ?_⟩
  have hk2 : k < hi := lt_trans hk' h2
  refine lt_of_le_of_ne (hmin k (Finset.mem_Ico.2 ⟨hk, hk2⟩)) fun e => ?_
  exact Nat.find_min hex hk' ⟨hk, hk2, e.symm⟩

/-- The later stretch replaces the earlier one exactly when its least value is strictly smaller. -/
theorem IsFirst.glue {lo mid hi : ℕ} {f : ℕ → EReal} {v w : EReal} {i j : ℕ} (h : IsFirst lo mid f v i) (h' : IsFirst mid hi f w j) :
    IsFirst lo hi f (if w < v then w else v) (if w < v then j else i) := by
  have hlm : lo < mid := lt_of_le_of_lt h.lower h.upper
  have hmh : mid < hi := lt_of_le_of_lt h'.lower h'.upper
  by_cases hw : w < v
  · simp only [hw, if_true]
    refine ⟨le_trans hlm.le h'.lower, h'.upper, h'.here, fun k hk hk' => ?_, fun k hk hk' => ?_⟩
    · by_cases hkm : k < mid
      · exact hw.le.trans (h.least k hk hkm)
      · exact h'.least k (not_lt.1 hkm) hk'
    · by_cases hkm : k < mid
      · exact lt_of_lt_of_le hw (h.least k hk hkm)
      · exact h'.first k (not_lt.1 hkm) hk'
  · simp only [hw, if_false]
    refine ⟨h.lower, h.upper.trans hmh, h.here, fun k hk hk' => ?_, h.first⟩
    by_cases hkm : k < mid
    · exact h.least k hk hkm
    · exact (not_lt.1 hw).trans (h'.least k (not_lt.1 hkm) hk')

/-- A map that keeps the strict order of the values keeps the position. -/
theorem IsFirst.map {lo hi : ℕ} {f : ℕ → EReal} {v : EReal} {j : ℕ} (h : IsFirst lo hi f v j) (φ : EReal → EReal)
    (hφ : ∀ k l, k < hi → l < hi → f k < f l → φ (f k) < φ (f l)) : IsFirst lo hi (fun k => φ (f k)) (φ v) j := by
  have key : ∀ k, k < hi → v < f k → φ v < φ (f k) := fun k hk hv => by
    have := hφ j k h.upper hk (h.here ▸ hv)
    rwa [h.here] at this
  refine ⟨h.lower, h.upper, congrArg φ h.here, fun k hk hk' => ?_, fun k hk hk' => key k (hk'.trans h.upper) (h.first k hk hk')⟩
  rcases (h.least k hk hk').eq_or_lt with e | l
  · exact le_of_eq (congrArg φ e)
  · exact (key k hk' l).le

/-- Moving the positions by a constant. -/
theorem IsFirst.shift {n : ℕ} {f : ℕ → EReal} {v : EReal} {j : ℕ} (b : ℕ) (h : IsFirst 0 n (fun r => f (b + r)) v j) :
    IsFirst b (b + n) f v (b + j) := by
  refine ⟨Nat.le_add_right _ _, Nat.add_lt_add_left h.upper _, h.here, fun k hk hk' => ?_, fun k hk hk' => ?_⟩
  · have := h.least (k - b) (Nat.zero_le _) (by omega)
    simpa only [Nat.add_sub_cancel' hk] using this
  · have := h.first (k - b) (Nat.zero_le _) (by omega)
    simpa only [Nat.add_sub_cancel' hk] using this

/-- Only the values on the stretch matter. -/
theorem IsFirst.congr {lo hi : ℕ} {f g : ℕ → EReal} {v : EReal} {j : ℕ} (h : IsFirst lo hi f v j) (e : ∀ k, lo ≤ k → k < hi → f k = g k) :
    IsFirst lo hi g v j := by
  refine ⟨h.lower, h.upper, (e j h.lower h.upper).symm.trans h.here, fun k hk hk' => ?_, fun k hk hk' => ?_⟩
  · rw [← e k hk hk']; exact h.least k hk hk'
  · rw [← e k hk (hk'.trans h.upper)]; exact h.first k hk hk'

/-- Among the positions of remainder `s` the least value is no smaller than on the whole stretch. -/
theorem IsFirst.le_remainder {n c : ℕ} {f : ℕ → EReal} {v w : EReal} {j a s : ℕ} (h : IsFirst 0 (n * c) f v j) (hs : s < c)
    (h' : IsFirst 0 n (fun a => f (a * c + s)) w a) : v ≤ w := by
  have ha := h'.upper
  have : a * c + s < n * c := lt_of_lt_of_le (by nlinarith) (Nat.mul_le_mul_right c (Nat.succ_le_of_lt ha))
  exact h'.here ▸ h.least _ (Nat.zero_le _) this

/-- If it is the least of the whole stretch, the first position of remainder `s` is not before the first one overall. -/
theorem IsFirst.position_le {n c : ℕ} {f : ℕ → EReal} {v w : EReal} {j a s : ℕ} (h : IsFirst 0 (n * c) f v j)
    (h' : IsFirst 0 n (fun a => f (a * c + s)) w a) (e : w = v) : j ≤ a * c + s := by
  by_contra hn
  have := h.first (a * c + s) (Nat.zero_le _) (not_le.1 hn)
  rw [show f (a * c + s) = w from h'.here, e] at this
  exact lt_irrefl _ this

/-- At the remainder of the first position itself, the least value and the position are the overall ones. -/
theorem IsFirst.own_remainder {n c : ℕ} (hc : 0 < c) {f : ℕ → EReal} {v : EReal} {j : ℕ} (h : IsFirst 0 (n * c) f v j) :
    IsFirst 0 n (fun a => f (a * c + j % c)) v (j / c) := by
  have hj : j / c * c + j % c = j := Nat.div_add_mod' j c
  have hm : j % c < c := Nat.mod_lt _ hc
  refine ⟨Nat.zero_le _, Nat.div_lt_of_lt_mul (by rw [Nat.mul_comm]; exact h.upper), by simpa only [hj] using h.here, fun k _ hk => ?_, fun k _ hk => ?_⟩
  · exact h.least _ (Nat.zero_le _) (lt_of_lt_of_le (by nlinarith) (Nat.mul_le_mul_right c (Nat.succ_le_of_lt hk)))
  · refine h.first _ (Nat.zero_le _) ?_
    have := Nat.mul_le_mul_right c (Nat.succ_le_of_lt hk)
    rw [Nat.succ_mul] at this
    omega

/-- The least value and its first position are determined. -/
theorem IsFirst.unique {lo hi : ℕ} {f : ℕ → EReal} {v w : EReal} {i j : ℕ} (h : IsFirst lo hi f v i) (h' : IsFirst lo hi f w j) :
    v = w ∧ i = j := by
  have e : v = w := le_antisymm (h'.here ▸ h.least j h'.lower h'.upper) (h.here ▸ h'.least i h.lower h.upper)
  subst e
  refine ⟨rfl, le_antisymm (not_lt.1 fun hl => ?_) (not_lt.1 fun hl => ?_)⟩
  · exact absurd (h.first j h'.lower hl) (by rw [h'.here]; exact lt_irrefl _)
  · exact absurd (h'.first i h.lower hl) (by rw [h.here]; exact lt_irrefl _)

/-- A fold by `min` is the attained lower bound of its terms. -/
theorem fold_min_eq {ι : Type} (s : Finset ι) (F : ι → EReal) (b v : EReal) (hb : v ≤ b) (hl : ∀ x ∈ s, v ≤ F x) (he : ∃ x ∈ s, F x = v) :
    s.fold min b F = v := by
  obtain ⟨x, hx, e⟩ := he
  exact le_antisymm (Finset.fold_min_le _ |>.2 (Or.inr ⟨x, hx, e.le⟩)) (Finset.le_fold_min _ |>.2 ⟨hb, hl⟩)

/-- Read as integers, a signed minimum of words is the minimum. -/
theorem toInt_minsi (x y : BitVec 32) : (IntOp.minsi x y).toInt = min x.toInt y.toInt := by
  unfold IntOp.minsi
  simp only [BitVec.slt_iff_toInt_lt]
  split <;> omega

/-- A fold by the signed minimum is the attained lower bound of its words. -/
theorem fold_minsi_eq {ι : Type} (s : Finset ι) (F : ι → BitVec 32) (b w : BitVec 32) (hb : w.toInt ≤ b.toInt)
    (hl : ∀ x ∈ s, w.toInt ≤ (F x).toInt) (he : ∃ x ∈ s, F x = w) : s.fold IntOp.minsi b F = w := by
  apply BitVec.eq_of_toInt_eq
  have := Finset.fold_hom (op := IntOp.minsi) (op' := (min : ℤ → ℤ → ℤ)) (m := BitVec.toInt) (s := s) (f := F) (b := b) (fun x y => (toInt_minsi x y))
  rw [← this]
  obtain ⟨x, hx, e⟩ := he
  exact le_antisymm (Finset.fold_min_le _ |>.2 (Or.inr ⟨x, hx, (congrArg BitVec.toInt e).le⟩)) (Finset.le_fold_min _ |>.2 ⟨hb, hl⟩)

end Cert.FirstMin

end
-- ==== Proof.Payload.lean ====
/-
  One block's arithmetic, read element by element: the score of a candidate against a query, the least score of a query in
  the block, and the position it is first met at.
-/
module

public import proofs.«01_k».proof.Proof.Gen.KernelIdeal.Skeleton
public import proofs.«01_k».proof.Proof.FirstMin
public import Idealize.ShloMosaic.Lib.Pointwise

@[expose] public section

noncomputable section

namespace Cert.KernelSide

open Cert.KernelIdeal Cert.KernelIdeal.Gen Idealize.ShloMosaic Cert.FirstMin

/-- The largest value a score is compared from. -/
theorem ofBits_inf : Ideal.ofBits .f32 0x7F800000#32 = ⊤ := by simp [Ideal.ofBits, Ideal.ieee]

/-- The score of the candidate in place `s` of group `a`. -/
theorem score_apply (x0 : Vec Ideal S32x1024 .f32) (x1 : Vec Ideal S20000x32 .f32) (x2 : Vec Ideal S1x1024 .f32) (a : Fin 2500) (s : Fin 8)
    (i : Fin 1024) (h : a.val * 8 + s.val < 20000) : k0_pay2 x0 x1 x2 (ix3 a s i)
      = (∑ k : Fin 32, (x1 (ix2 ⟨a.val * 8 + s.val, h⟩ k) : EReal) * (x1 (ix2 ⟨a.val * 8 + s.val, h⟩ k) : EReal)) + (x2 (ix2 (0 : Fin 1) i) : EReal)
        + ∑ k : Fin 32, (x1 (ix2 ⟨a.val * 8 + s.val, h⟩ k) : EReal) * (x0 (ix2 k i) : EReal) := by
  pointwise [k0_pay2]

/-- The least score among the candidates in place `s` of their groups. -/
theorem place_apply (x0 : Vec Ideal S32x1024 .f32) (x1 : Vec Ideal S20000x32 .f32) (x2 : Vec Ideal S1x1024 .f32) (s : Fin 8) (i : Fin 1024) :
    k0_pay3 x0 x1 x2 (ix2 s i) = Finset.univ.fold min ⊤ (fun a : Fin 2500 => (k0_pay2 x0 x1 x2 (ix3 a s i) : EReal)) := by
  rw [← ofBits_inf]
  pointwise [k0_pay3]

/-- The least score of the block. -/
theorem row_apply (x0 : Vec Ideal S32x1024 .f32) (x1 : Vec Ideal S20000x32 .f32) (x2 : Vec Ideal S1x1024 .f32) (i : Fin 1024) :
    k0_pay4 x0 x1 x2 (ix2 (0 : Fin 1) i) = Finset.univ.fold min ⊤ (fun s : Fin 8 => (k0_pay3 x0 x1 x2 (ix2 s i) : EReal)) := by
  rw [← ofBits_inf]
  pointwise [k0_pay4]

/-- The positions of the eight places that attain the least score, the others replaced by a filler. -/
theorem candidates_apply (g : grid0.Coords) (A : FVec Ideal S8x1024 .f32) (B : FVec Ideal S1x1024 .f32) (R : IVec S8x1024 32) (w : BitVec 32)
    (s : Fin 8) (i : Fin 1024) :
    (select (cmpf .oeq A (broadcastTo S8x1024 B broadcasts_S1x1024_S8x1024))
        (addi (addi (muli R (broadcast S8x1024 8#32)) (iota .tc S8x1024 32 [0] iota_S8x1024_d0_w32))
          (broadcast S8x1024 (Scalar.muli (BitVec.ofNat 32 (g 0).val) 20000#32)))
        (broadcast S8x1024 w) : IVec S8x1024 32) (ix2 s i)
      = if A (ix2 s i) = B (ix2 (0 : Fin 1) i) then
          IntOp.addi (IntOp.addi (IntOp.muli (R (ix2 s i)) 8#32) (BitVec.ofNat 32 s.val)) (Scalar.muli (BitVec.ofNat 32 (g 0).val) 20000#32)
        else w := by
  pointwise []

/-- A row of words behind its unit axis. -/
theorem unit_axis_apply (M : IVec S1024 32) (i : Fin 1024) : shapeCast S1x1024 M shapeCasts_S1024_S1x1024 (ix2 (0 : Fin 1) i) = M (ix1 i) := by
  pointwise []

/-- The signed minimum down the eight places. -/
theorem least_word_apply (M : IVec S8x1024 32) (w : BitVec 32) (hw : w = IKind.minsi.neutral) (i : Fin 1024) :
    multiReductionI .minsi [0] S1024 M w reduces_S8x1024_S1024 hw (ix1 i) = Finset.univ.fold IntOp.minsi w (fun s : Fin 8 => M (ix2 s i)) := by
  rw [multiReductionI_eq_fold, Shape.Reduces.fold_filter_drop_single]
  refine Finset.fold_congr fun s _ => congrArg M ?_
  funext a
  fin_cases a <;> rfl

/-- The position row of the block. -/
theorem position_apply (g : grid0.Coords) (x0 : Vec Ideal S32x1024 .f32) (x1 : Vec Ideal S20000x32 .f32) (x2 : Vec Ideal S1x1024 .f32) (i : Fin 1024) :
    k0_pay5 g x0 x1 x2 (ix2 (0 : Fin 1) i) = Finset.univ.fold IntOp.minsi 2147483647#32 (fun s : Fin 8 =>
      if k0_pay3 x0 x1 x2 (ix2 s i) = k0_pay4 x0 x1 x2 (ix2 (0 : Fin 1) i) then
        IntOp.addi (IntOp.addi (IntOp.muli (reduceIndex .argMin 0 S8x1024 (k0_pay2 x0 x1 x2) reduces_S2500x8x1024_S8x1024 (ix2 s i)) 8#32)
          (BitVec.ofNat 32 s.val)) (Scalar.muli (BitVec.ofNat 32 (g 0).val) 20000#32)
      else 2147483647#32) := by
  unfold k0_pay5
  exact (unit_axis_apply _ i).trans ((least_word_apply _ _ _ i).trans (Finset.fold_congr fun s _ => candidates_apply g _ _ _ _ s i))

/-- The index reduction answers the first group that attains its place's least score. -/
theorem first_group (x : FVec Ideal S2500x8x1024 .f32) (f : ℕ → EReal) (s : Fin 8) (i : Fin 1024) (hf : ∀ a : Fin 2500, x (ix3 a s i) = f a.val)
    {v : EReal} {a : ℕ} (h : IsFirst 0 2500 f v a) :
    reduceIndex .argMin 0 S8x1024 x reduces_S2500x8x1024_S8x1024 (ix2 s i) = BitVec.ofNat 32 a := by
  classical
  have lift_eq : ∀ b : Fin 2500, reduces_S2500x8x1024_S8x1024.lift (ix2 s i) b = (ix3 b s i : S2500x8x1024.Idx) := fun b => by
    funext c
    fin_cases c <;> rfl
  have mem : ∀ y : S2500x8x1024.Idx, (reduces_S2500x8x1024_S8x1024.drop y = (ix2 s i : S8x1024.Idx)) ↔ ∃ b : Fin 2500, y = ix3 b s i := fun y =>
    ⟨fun e => ⟨y 0, ((reduces_S2500x8x1024_S8x1024.lift_drop y).symm.trans (by rw [e])).trans (lift_eq (y 0))⟩,
      fun ⟨b, e⟩ => by rw [e, ← lift_eq]; exact reduces_S2500x8x1024_S8x1024.drop_lift _ _⟩
  show Ideal.reduceIndex .argMin 0 reduces_S2500x8x1024_S8x1024 x (ix2 s i) = _
  unfold Ideal.reduceIndex
  refine congrArg (BitVec.ofNat 32) ?_
  have hmin : ∀ S : Finset ℕ, a ∈ S → (∀ b ∈ S, a ≤ b) → S.min.getD 0 = a := fun S ha hb => by
    have : S.min = ((a : ℕ) : WithTop ℕ) := le_antisymm (Finset.min_le ha) (Finset.le_min fun b hbS => WithTop.coe_le_coe.2 (hb b hbS))
    rw [this]; rfl
  refine hmin _ ?_ ?_
  · rw [Finset.mem_image]
    refine ⟨ix3 ⟨a, h.upper⟩ s i, ?_, rfl⟩
    simp only [Finset.mem_filter, Finset.mem_univ, true_and, reduceCtorEq, if_false]
    refine ⟨(mem _).2 ⟨_, rfl⟩, fun y hy => ?_⟩
    obtain ⟨b, rfl⟩ := (mem y).1 hy
    rw [hf, hf, h.here]
    exact not_lt.2 (h.least _ (Nat.zero_le _) b.isLt)
  · intro b hb
    rw [Finset.mem_image] at hb
    obtain ⟨y, hy, rfl⟩ := hb
    simp only [Finset.mem_filter, Finset.mem_univ, true_and, reduceCtorEq, if_false] at hy
    obtain ⟨hy1, hy2⟩ := hy
    obtain ⟨b, rfl⟩ := (mem y).1 hy1
    show a ≤ b.val
    by_contra hlt
    have := hy2 (ix3 ⟨a, h.upper⟩ s i) ((mem _).2 ⟨_, rfl⟩)
    rw [hf, hf, h.here] at this
    exact this (h.first _ (Nat.zero_le _) (not_le.1 hlt))

end Cert.KernelSide

end
-- ==== Proof.Squares.lean ====
/-
  The squared distance of two rows of real numbers, and the two ways it is spelled: expanded with the factor -2 inside the
  product's operand, and expanded with 2 times the product subtracted.
-/
module

public import Mathlib.Data.EReal.Operations
public import Mathlib.Algebra.BigOperators.Ring.Finset
public import Mathlib.Analysis.SpecialFunctions.Pow.NNReal
public import Idealize.ShloMosaic.PureOps.Ideal

@[expose] public section

noncomputable section

namespace Cert.Squares

open Idealize.ShloMosaic

/-- The squared distance of two rows. -/
def sqDist (q p : Fin 32 → ℝ) : ℝ := ∑ k, (q k - p k) ^ 2

theorem sqDist_nonneg (q p : Fin 32 → ℝ) : 0 ≤ sqDist q p := Finset.sum_nonneg fun _ _ => sq_nonneg _

/-- A finite sum of reals is the sum of their copies among the extended reals. -/
theorem coe_sum {ι : Type} (s : Finset ι) (f : ι → ℝ) : ((∑ k ∈ s, f k : ℝ) : EReal) = ∑ k ∈ s, (f k : EReal) := by
  classical
  refine Finset.induction_on s (by simp) fun a s ha ih => ?_
  rw [Finset.sum_insert ha, Finset.sum_insert ha, EReal.coe_add, ih]

/-- The factor -2. -/
theorem ofBits_neg_two : Ideal.ofBits .f32 0xC0000000#32 = ((-2 : ℝ) : EReal) := by
  simp [Ideal.ofBits, Ideal.ieee, -EReal.coe_mul, -EReal.coe_neg]
  norm_num

/-- The factor 2. -/
theorem ofBits_two : Ideal.ofBits .f32 0x40000000#32 = ((2 : ℝ) : EReal) := by
  simp [Ideal.ofBits, Ideal.ieee, -EReal.coe_mul, -EReal.coe_neg]
  norm_num

/-- The kernel's spelling: both squared norms, and the product of the candidate with the query already scaled by -2. -/
theorem folded (q p : Fin 32 → ℝ) :
    (∑ k, (p k : EReal) * (p k : EReal)) + (∑ k, (q k : EReal) * (q k : EReal)) + ∑ k, (p k : EReal) * ((q k : EReal) * ((-2 : ℝ) : EReal))
      = (sqDist q p : EReal) := by
  simp only [← EReal.coe_mul, ← coe_sum, ← EReal.coe_add]
  congr 1
  unfold sqDist
  rw [← Finset.sum_add_distrib, ← Finset.sum_add_distrib]
  exact Finset.sum_congr rfl fun k _ => by ring

/-- The reference's spelling: both squared norms, minus twice the product. -/
theorem expanded (q p : Fin 32 → ℝ) :
    (∑ k, (q k : EReal) * (q k : EReal)) + (∑ k, (p k : EReal) * (p k : EReal)) - ((2 : ℝ) : EReal) * ∑ k, (q k : EReal) * (p k : EReal)
      = (sqDist q p : EReal) := by
  simp only [← EReal.coe_mul, ← coe_sum, ← EReal.coe_add, ← EReal.coe_sub]
  congr 1
  unfold sqDist
  rw [Finset.mul_sum, ← Finset.sum_add_distrib, ← Finset.sum_sub_distrib]
  exact Finset.sum_congr rfl fun k _ => by ring

/-- The square root of what is at least zero, as both programs take it. -/
def root (x : EReal) : EReal := Ideal.sqrt (max 0 x)

theorem root_coe (r : ℝ) (hr : 0 ≤ r) : root (r : EReal) = (Real.sqrt r : EReal) := by
  have : max (0 : EReal) (r : EReal) = (r : EReal) := max_eq_right (by exact_mod_cast hr)
  unfold root
  rw [this]
  show (if r < 0 then (⊥ : EReal) else (Real.sqrt r : EReal)) = _
  rw [if_neg (not_lt.2 hr)]

/-- It keeps the strict order of reals that are at least zero. -/
theorem root_lt (r s : ℝ) (hr : 0 ≤ r) (h : (r : EReal) < (s : EReal)) : root (r : EReal) < root (s : EReal) := by
  have h' : r < s := by exact_mod_cast h
  rw [root_coe r hr, root_coe s (hr.trans h'.le)]
  exact_mod_cast Real.sqrt_lt_sqrt hr h'

end Cert.Squares

end
-- ==== Proof.Entry.lean ====
/-
  What one grid point reads: its block of each of the three inputs, in terms of the two arguments, and so the score of each of
  the block's candidates, for real arguments: the squared distance.
-/
module

public import proofs.«01_k».proof.Proof.KernelRun
public import proofs.«01_k».proof.Proof.Payload
public import proofs.«01_k».proof.Proof.Squares

@[expose] public section

noncomputable section

namespace Cert.KernelSide

open Cert.KernelIdeal Cert.KernelIdeal.Gen Idealize.ShloMosaic Idealize.ShloMosaic.TcCoe Cert.Squares

variable (m : (ℓ : Loc nD τ sig) → Buf (Elt Ideal) ℓ)

/-- The queries. -/
abbrev queries (c : Dev nD) : FVec Ideal S1024x32 .f32 := m ((c.tc : Thread nD τ).loc main_arg0)

/-- The candidates. -/
abbrev cands (c : Dev nD) : FVec Ideal S100000x32 .f32 := m ((c.tc : Thread nD τ).loc main_arg1)

/-- Where each window's block lies. -/
theorem placed (t : Fin cfg0.N) : win0_0.index t = ![0, 0] ∧ win0_1.index t = ![t.val, 0] ∧ win0_2.index t = ![0, 0] := by
  revert t; decide

/-- The first input is the queries' transpose scaled by -2. -/
theorem entry_scaled (c : Dev nD) : (V m c main_v2 : FVec Ideal S32x1024 .f32) = mulf (transpose S32x1024 [1, 0] (queries m c) transposes_S1024x32_S32x1024_1_0)
    (broadcastInDim S32x1024 ![] bcast_S_S32x1024 (constant S_ .f32 0xC0000000#32)) := by
  show StableHlo.after hostOps0 (fun b => m (c, b)) (Proc.tc.devRef main_v2) = _
  after_results

theorem entry_scaled_apply (c : Dev nD) (k : Fin 32) (i : Fin 1024) :
    (V m c main_v2 : FVec Ideal S32x1024 .f32) (ix2 k i) = (queries m c (ix2 i k) : EReal) * Ideal.ofBits .f32 0xC0000000#32 := by
  rw [entry_scaled]
  pointwise []

/-- The third is the row of the queries' squared norms. -/
theorem entry_norms (c : Dev nD) : (V m c main_v5 : FVec Ideal S1x1024 .f32) = broadcastInDim S1x1024 ![1] bcast_S1024_S1x1024_1
    (Host.reduceAdd (mulf (queries m c) (queries m c)) (constant S_ .f32 0x00000000#32) reducesTo_S1024x32_S1024_d1 h_S_) := by
  show StableHlo.after hostOps0 (fun b => m (c, b)) (Proc.tc.devRef main_v5) = _
  after_results

theorem entry_norms_apply (c : Dev nD) (i : Fin 1024) : (V m c main_v5 : FVec Ideal S1x1024 .f32) (ix2 (0 : Fin 1) i)
    = ∑ k : Fin 32, (queries m c (ix2 i k) : EReal) * (queries m c (ix2 i k) : EReal) := by
  rw [entry_norms]
  pointwise []

theorem block_scaled (c : Dev nD) (t : Fin cfg0.N) (k : Fin 32) (i : Fin 1024) :
    iblk m c 0 t (ix2 k i : S32x1024.Idx) = V m c main_v2 (ix2 k i : S32x1024.Idx) := by
  blk_ext [iblk, V, placed t]

theorem block_norms (c : Dev nD) (t : Fin cfg0.N) (i : Fin 1024) :
    iblk m c 2 t (ix2 (0 : Fin 1) i : S1x1024.Idx) = V m c main_v5 (ix2 (0 : Fin 1) i : S1x1024.Idx) := by
  blk_ext [iblk, V, placed t]

theorem block_cands (c : Dev nD) (t : Fin cfg0.N) (r : Fin 20000) (k : Fin 32) (h : 20000 * t.val + r.val < 100000) :
    iblk m c 1 t (ix2 r k : S20000x32.Idx) = cands m c (ix2 ⟨20000 * t.val + r.val, h⟩ k) := by
  blk_ext [iblk, V, placed t]

theorem block_fits (t : Fin cfg0.N) (r : ℕ) (hr : r < 20000) : 20000 * t.val + r < 100000 := by
  have : t.val < 5 := t.isLt
  omega

/-- The score of a block's candidate is its squared distance to the query. -/
theorem block_score (c : Dev nD) (Q : Fin 1024 → Fin 32 → ℝ) (P : ℕ → Fin 32 → ℝ) (hQ : ∀ i k, queries m c (ix2 i k) = (Q i k : EReal))
    (hP : ∀ (r : Fin 100000) k, cands m c (ix2 r k) = (P r.val k : EReal)) (t : Fin cfg0.N) (a : Fin 2500) (s : Fin 8) (i : Fin 1024) :
    k0_pay2 (iblk m c 0 t) (iblk m c 1 t) (iblk m c 2 t) (ix3 a s i) = (sqDist (Q i) (P (20000 * t.val + (a.val * 8 + s.val))) : EReal) := by
  have hr : a.val * 8 + s.val < 20000 := by omega
  have h1 : ∀ k, iblk m c 1 t (ix2 (⟨a.val * 8 + s.val, hr⟩ : Fin 20000) k : S20000x32.Idx) = (P (20000 * t.val + (a.val * 8 + s.val)) k : EReal) :=
    fun k => (block_cands m c t _ k (block_fits t _ hr)).trans (hP _ k)
  have h0 : ∀ k, iblk m c 0 t (ix2 k i : S32x1024.Idx) = ((Q i k : EReal) * ((-2 : ℝ) : EReal) : EReal) := fun k => by
    refine ((block_scaled m c t k i).trans (entry_scaled_apply m c k i)).trans ?_
    rw [hQ, ofBits_neg_two]
  have h2 : @Eq EReal (iblk m c 2 t (ix2 (0 : Fin 1) i : S1x1024.Idx)) (∑ k, (Q i k : EReal) * (Q i k : EReal)) :=
    ((block_norms m c t i).trans (entry_norms_apply m c i)).trans (by simp only [hQ])
  rw [score_apply _ _ _ a s i hr, ← folded]
  refine congrArg₂ (· + ·) (congrArg₂ (· + ·) (Finset.sum_congr rfl fun k _ => by rw [h1]) h2) (Finset.sum_congr rfl fun k _ => by rw [h1, h0])

end Cert.KernelSide

end
-- ==== Proof.Block.lean ====
/-
  One block: if its scores are the values of a function of the candidate's number, the two rows it computes are the least of
  those values and the first number that has it.
-/
module

public import proofs.«01_k».proof.Proof.Payload

@[expose] public section

noncomputable section

namespace Cert.KernelSide

open Cert.KernelIdeal Cert.KernelIdeal.Gen Idealize.ShloMosaic Cert.FirstMin

/-- A small number's word, read as an integer. -/
theorem toInt_small (n : ℕ) (h : n < 2147483648) : (BitVec.ofNat 32 n).toInt = (n : ℤ) := by
  rw [BitVec.toInt_eq_toNat_of_lt (by rw [BitVec.toNat_ofNat]; omega), BitVec.toNat_ofNat, Nat.mod_eq_of_lt (by omega)]

/-- The word arithmetic of a position: group times eight, plus place, plus the block's offset. -/
theorem position_word (a s b t : ℕ) (ht : t * 20000 = b) :
    IntOp.addi (IntOp.addi (IntOp.muli (BitVec.ofNat 32 a) 8#32) (BitVec.ofNat 32 s)) (Scalar.muli (BitVec.ofNat 32 t) 20000#32)
      = BitVec.ofNat 32 (b + (a * 8 + s)) := by
  subst ht
  show BitVec.ofNat 32 a * BitVec.ofNat 32 8 + BitVec.ofNat 32 s + BitVec.ofNat 32 t * BitVec.ofNat 32 20000 = _
  rw [← BitVec.ofNat_mul, ← BitVec.ofNat_mul, ← BitVec.ofNat_add, ← BitVec.ofNat_add, Nat.add_comm]

theorem block_spec (g : grid0.Coords) (x0 : Vec Ideal S32x1024 .f32) (x1 : Vec Ideal S20000x32 .f32) (x2 : Vec Ideal S1x1024 .f32) (i : Fin 1024)
    (f : ℕ → EReal) (hf : ∀ (a : Fin 2500) (s : Fin 8), k0_pay2 x0 x1 x2 (ix3 a s i) = f (a.val * 8 + s.val)) {v : EReal} {j : ℕ}
    (h : IsFirst 0 (2500 * 8) f v j) (b : ℕ) (hg : (g 0).val * 20000 = b) (hb : b ≤ 80000) :
    k0_pay4 x0 x1 x2 (ix2 (0 : Fin 1) i) = v ∧ k0_pay5 g x0 x1 x2 (ix2 (0 : Fin 1) i) = BitVec.ofNat 32 (b + j) := by
  have hex : ∀ s : Fin 8, ∃ w a, IsFirst 0 2500 (fun a => f (a * 8 + s.val)) w a := fun s => exists_isFirst _ _ (by decide) _
  choose w a hwa using hex
  have place : ∀ s : Fin 8, k0_pay3 x0 x1 x2 (ix2 s i) = w s := fun s => by
    rw [place_apply]
    refine fold_min_eq _ _ _ _ le_top (fun x _ => ?_) ⟨⟨a s, (hwa s).upper⟩, Finset.mem_univ _, ?_⟩
    · rw [hf]; exact (hwa s).least _ (Nat.zero_le _) x.isLt
    · rw [hf]; exact (hwa s).here
  have hj8 : j % 8 < 8 := Nat.mod_lt _ (by decide)
  obtain ⟨own1, own2⟩ := (hwa ⟨j % 8, hj8⟩).unique (h.own_remainder (by decide))
  have row : k0_pay4 x0 x1 x2 (ix2 (0 : Fin 1) i) = v := by
    rw [row_apply]
    refine fold_min_eq _ _ _ _ le_top (fun s _ => ?_) ⟨⟨j % 8, hj8⟩, Finset.mem_univ _, ?_⟩
    · rw [place]; exact h.le_remainder s.isLt (hwa s)
    · rw [place]; exact own1
  refine ⟨row, ?_⟩
  have hj : j < 20000 := h.upper
  have word : ∀ s : Fin 8, (if k0_pay3 x0 x1 x2 (ix2 s i) = k0_pay4 x0 x1 x2 (ix2 (0 : Fin 1) i) then
        IntOp.addi (IntOp.addi (IntOp.muli (reduceIndex .argMin 0 S8x1024 (k0_pay2 x0 x1 x2) reduces_S2500x8x1024_S8x1024 (ix2 s i)) 8#32)
          (BitVec.ofNat 32 s.val)) (Scalar.muli (BitVec.ofNat 32 (g 0).val) 20000#32)
      else 2147483647#32) = if w s = v then BitVec.ofNat 32 (b + (a s * 8 + s.val)) else 2147483647#32 := fun s => by
    rw [place, row, first_group _ _ s i (fun a => hf a s) (hwa s), position_word _ _ b _ hg]
  rw [position_apply]
  refine fold_minsi_eq _ _ _ _ ?_ (fun s _ => ?_) ⟨⟨j % 8, hj8⟩, Finset.mem_univ _, ?_⟩
  · rw [toInt_small _ (by omega), toInt_small 2147483647 (by decide)]
    omega
  · rw [word]
    split
    · next e =>
      have hle := h.position_le (hwa s) e
      have hlt := (hwa s).upper
      have hs := s.isLt
      rw [toInt_small _ (by omega), toInt_small _ (by omega)]
      omega
    · rw [toInt_small _ (by omega), toInt_small 2147483647 (by decide)]
      omega
  · rw [word, if_pos own1, own2]
    have := Nat.div_add_mod' j 8
    rw [show j / 8 * 8 + (⟨j % 8, hj8⟩ : Fin 8).val = j from this]

end Cert.KernelSide

end
-- ==== Proof.Carried.lean ====
/-
  The carried rows: after the point `n` they hold, for each query, the least squared distance over the first `n + 1` blocks and
  the first candidate that attains it.
-/
module

public import proofs.«01_k».proof.Proof.Entry
public import proofs.«01_k».proof.Proof.Block

@[expose] public section

noncomputable section

namespace Cert.KernelSide

open Cert.KernelIdeal Cert.KernelIdeal.Gen Idealize.ShloMosaic Idealize.ShloMosaic.TcCoe Cert.Squares Cert.FirstMin

variable (m : (ℓ : Loc nD τ sig) → Buf (Elt Ideal) ℓ)

theorem carried_row_apply (x0 : Vec Ideal S32x1024 .f32) (x1 : Vec Ideal S20000x32 .f32) (x2 : Vec Ideal S1x1024 .f32) (i : Fin 1024) :
    k0_pay6 x0 x1 x2 (ix2 (0 : Fin 1) i) = k0_pay4 x0 x1 x2 (ix2 (0 : Fin 1) i) := by
  pointwise [k0_pay6]

theorem carried_position_apply (g : grid0.Coords) (x0 : Vec Ideal S32x1024 .f32) (x1 : Vec Ideal S20000x32 .f32) (x2 : Vec Ideal S1x1024 .f32)
    (i : Fin 1024) : k0_pay7 g x0 x1 x2 (ix2 (0 : Fin 1) i) = k0_pay5 g x0 x1 x2 (ix2 (0 : Fin 1) i) := by
  pointwise [k0_pay7]

theorem updated_row_apply (x0 : Vec Ideal S32x1024 .f32) (x1 : Vec Ideal S20000x32 .f32) (x2 y z : Vec Ideal S1x1024 .f32) (i : Fin 1024) :
    k0_pay9 x0 x1 x2 y z (ix2 (0 : Fin 1) i)
      = if (k0_pay4 x0 x1 x2 (ix2 (0 : Fin 1) i) : EReal) < (y (ix2 (0 : Fin 1) i) : EReal) then k0_pay4 x0 x1 x2 (ix2 (0 : Fin 1) i) else z (ix2 (0 : Fin 1) i) := by
  pointwise [k0_pay9, k0_pay8]

theorem updated_position_apply (g : grid0.Coords) (x0 : Vec Ideal S32x1024 .f32) (x1 : Vec Ideal S20000x32 .f32) (x2 y : Vec Ideal S1x1024 .f32)
    (z : Vec Ideal S1x1024 .i32) (i : Fin 1024) : k0_pay10 g x0 x1 x2 y z (ix2 (0 : Fin 1) i)
      = if (k0_pay4 x0 x1 x2 (ix2 (0 : Fin 1) i) : EReal) < (y (ix2 (0 : Fin 1) i) : EReal) then k0_pay5 g x0 x1 x2 (ix2 (0 : Fin 1) i) else z (ix2 (0 : Fin 1) i) := by
  pointwise [k0_pay10, k0_pay8]

theorem coord_val (t : Fin cfg0.N) : (grid0.coords t 0).val = t.val := by
  revert t; decide

variable (c : Dev nD) (Q : Fin 1024 → Fin 32 → ℝ) (P : ℕ → Fin 32 → ℝ)

/-- The block of point `t`. -/
theorem block_first (hQ : ∀ i k, queries m c (ix2 i k) = (Q i k : EReal)) (hP : ∀ (r : Fin 100000) k, cands m c (ix2 r k) = (P r.val k : EReal))
    (t : Fin cfg0.N) (i : Fin 1024) : ∃ v j, IsFirst (20000 * t.val) (20000 * t.val + 2500 * 8) (fun r => (sqDist (Q i) (P r) : EReal)) v j
      ∧ k0_pay4 (iblk m c 0 t) (iblk m c 1 t) (iblk m c 2 t) (ix2 (0 : Fin 1) i) = v
      ∧ k0_pay5 (grid0.coords t) (iblk m c 0 t) (iblk m c 1 t) (iblk m c 2 t) (ix2 (0 : Fin 1) i) = BitVec.ofNat 32 j := by
  obtain ⟨v, j, h⟩ := exists_isFirst 0 (2500 * 8) (by decide) (fun r => (sqDist (Q i) (P (20000 * t.val + r)) : EReal))
  have ht : t.val < 5 := t.isLt
  obtain ⟨e1, e2⟩ := block_spec (grid0.coords t) (iblk m c 0 t) (iblk m c 1 t) (iblk m c 2 t) i _ (fun a s => block_score m c Q P hQ hP t a s i) h
    (20000 * t.val) (by rw [coord_val, Nat.mul_comm]) (by omega)
  exact ⟨v, 20000 * t.val + j, IsFirst.shift (f := fun r => (sqDist (Q i) (P r) : EReal)) _ h, e1, e2⟩

/-- The carried rows after point `n`. -/
theorem carried_first (hQ : ∀ i k, queries m c (ix2 i k) = (Q i k : EReal)) (hP : ∀ (r : Fin 100000) k, cands m c (ix2 r k) = (P r.val k : EReal))
    (i : Fin 1024) (n : ℕ) : ∀ h : n < cfg0.N, ∃ v j, IsFirst 0 (20000 * (n + 1)) (fun r => (sqDist (Q i) (P r) : EReal)) v j
      ∧ accMin m c n h (ix2 (0 : Fin 1) i) = v ∧ accIdx m c n h (ix2 (0 : Fin 1) i) = BitVec.ofNat 32 j := by
  induction n with
  | zero =>
    intro h
    obtain ⟨v, j, hf, e1, e2⟩ := block_first m c Q P hQ hP ⟨0, h⟩ i
    refine ⟨v, j, by simpa using hf, ?_, ?_⟩
    · exact (congrFun (first_min m c ⟨0, h⟩ rfl (Nat.not_succ_le_zero 0) (by show ¬0 % 5 = 4; decide)) _).trans ((carried_row_apply _ _ _ i).trans e1)
    · exact (congrFun (first_idx m c ⟨0, h⟩ rfl (Nat.not_succ_le_zero 0) (by show ¬0 % 5 = 4; decide)) _).trans ((carried_position_apply _ _ _ _ i).trans e2)
  | succ n ih =>
    intro h
    obtain ⟨v, j, hf, e1, e2⟩ := ih (Nat.lt_of_succ_lt h)
    obtain ⟨w, l, hf', e1', e2'⟩ := block_first m c Q P hQ hP ⟨n + 1, h⟩ i
    have hn : n + 1 < 5 := h
    have h0 : ¬(n + 1) % 5 = 0 := by omega
    have hi : 20000 * (n + 1) + 2500 * 8 = 20000 * (n + 1 + 1) := by omega
    refine ⟨_, _, hi ▸ hf.glue hf', ?_, ?_⟩
    · refine (congrFun (next_min m c ⟨n + 1, h⟩ h0 (Nat.le_add_left _ _)) _).trans ((updated_row_apply _ _ _ _ _ i).trans ?_)
      rw [e1']
      have e1 : accMin m c ((⟨n + 1, h⟩ : Fin cfg0.N).val - 1) (Nat.lt_of_le_of_lt (Nat.sub_le _ _) h) (ix2 (0 : Fin 1) i) = v := e1
      rw [e1]
    · refine (congrFun (next_idx m c ⟨n + 1, h⟩ h0 (Nat.le_add_left _ _)) _).trans ((updated_position_apply _ _ _ _ _ _ i).trans ?_)
      rw [e1', e2']
      have e1 : accMin m c ((⟨n + 1, h⟩ : Fin cfg0.N).val - 1) (Nat.lt_of_le_of_lt (Nat.sub_le _ _) h) (ix2 (0 : Fin 1) i) = v := e1
      have e2 : accIdx m c ((⟨n + 1, h⟩ : Fin cfg0.N).val - 1) (Nat.lt_of_le_of_lt (Nat.sub_le _ _) h) (ix2 (0 : Fin 1) i) = BitVec.ofNat 32 j := e2
      rw [e1, e2]
      split <;> rfl

end Cert.KernelSide

end
-- ==== Proof.Reference.lean ====
/-
  The reference program's run: its two results as terms of the two arguments, the arguments unchanged, every counter at zero.
  The whole distance matrix is named here once (`dist`), because the minimum and the argmin both read it.
-/
module

public import proofs.«01_k».proof.Defs
public import proofs.«01_k».proof.Proof.Gen.ReferenceIdeal
public import Idealize.ShloMosaic.Lib.Claim
public import Idealize.ShloMosaic.Lib.Quiescent

@[expose] public section

set_option maxRecDepth 16384

noncomputable section

namespace Cert.RefSide

open Cert.ReferenceIdeal Cert.ReferenceIdeal.Gen Idealize.ShloMosaic Idealize.ShloMosaic.TcCoe Idealize.SL.Sem

/-- The matrix of distances from each query (row of `q`) to each candidate (row of `p`), as the reference composes it. -/
def dist (q : FVec Ideal S1024x32 .f32) (p : FVec Ideal S100000x32 .f32) : FVec Ideal S1024x100000 .f32 :=
  Host.sqrt (maximumf (broadcastInDim S1024x100000 ![] bcast_S_S1024x100000 (constant S_ .f32 0x00000000#32))
    (subf (addf (broadcastInDim S1024x100000 ![0, 1] bcast_S1024x1_S1024x100000_0_1 (broadcastInDim S1024x1 ![0] bcast_S1024_S1024x1_0
            (Host.reduceAdd (mulf q q) (constant S_ .f32 0x00000000#32) reducesTo_S1024x32_S1024_d1 h_S_)))
          (broadcastInDim S1024x100000 ![0, 1] bcast_S1x100000_S1024x100000_0_1 (transpose S1x100000 [1, 0] (broadcastInDim S100000x1 ![0] bcast_S100000_S100000x1_0
            (Host.reduceAdd (mulf p p) (constant S_ .f32 0x00000000#32) reducesTo_S100000x32_S100000_d1 h_S_)) transposes_S100000x1_S1x100000_1_0)))
      (mulf (broadcastInDim S1024x100000 ![] bcast_S_S1024x100000 (constant S_ .f32 0x40000000#32))
        (Host.dotGeneral dot_S1024x32_S32x100000_S1024x100000_1_0_0_1_n_n none q (transpose S32x100000 [1, 0] p transposes_S100000x32_S32x100000_1_0)))))

/-- The least distance of each query. -/
def least (q : FVec Ideal S1024x32 .f32) (p : FVec Ideal S100000x32 .f32) : FVec Ideal S1024 .f32 :=
  Host.reduce FloatOps.minimumf (dist q p) (constant S_ .f32 0x7F800000#32) reducesTo_S1024x100000_S1024_d1 h_S_

/-- The position of the least distance of each query. -/
def position (q : FVec Ideal S1024x32 .f32) (p : FVec Ideal S100000x32 .f32) : IVec S1024 32 := fun j =>
  (Host.argReduce reducer_argmin_f32_i32 (dist q p) (iotaInDim S1024x100000 32 1) (constant S_ .f32 0x7F800000#32) (constantI S_ 32 0#32)
    reducesTo_S1024x100000_S1024_d1 h_S_ j).2

/-- The first result: the least distances as a column. -/
def out0 (q : FVec Ideal S1024x32 .f32) (p : FVec Ideal S100000x32 .f32) : FVec Ideal S1024x1 .f32 :=
  shapeCast S1024x1 (least q p) shapeCasts_S1024_S1024x1

/-- The second result: each query's own number beside the position of its least distance. -/
def out1 (q : FVec Ideal S1024x32 .f32) (p : FVec Ideal S100000x32 .f32) : IVec S1024x2 32 :=
  concatenate S1024x2 1 [⟨S1024x1, broadcastInDim S1024x1 ![0] bcast_S1024_S1024x1_0 (iotaInDim S1024 32 0)⟩,
    ⟨S1024x1, broadcastInDim S1024x1 ![0] bcast_S1024_S1024x1_0 (position q p)⟩] concatenates_S1024x1_S1024x1_S1024x2_d1

set_option maxHeartbeats 4000000 in
/-- The reference's run. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v23) = out0 (m ((c.tc : Thread nD τ).loc main_arg0)) (m ((c.tc : Thread nD τ).loc main_arg1))
      ∧ r.2.mem ((c.tc : Thread nD τ).loc main_v22) = out1 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  all_goals rfl

/-- The reference has no semaphore, so every counter reads zero where it ends. -/
theorem runZero (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2.2, sem_eq_zero_of_no_sems (by decide) r.2⟩) (run m g)

end Cert.RefSide

end
-- ==== Proof.ReferenceValue.lean ====
/-
  The reference's matrix and minimum, by value: for real arguments the matrix holds the roots of the squared distances, and the
  minimum is the root of the least one.
-/
module

public import proofs.«01_k».proof.Proof.Reference
public import proofs.«01_k».proof.Proof.FirstMin
public import proofs.«01_k».proof.Proof.Squares
public import Idealize.ShloMosaic.Lib.Pointwise

@[expose] public section

noncomputable section

namespace Cert.RefSide

open Cert.ReferenceIdeal Cert.ReferenceIdeal.Gen Idealize.ShloMosaic Cert.Squares Cert.FirstMin

/-- An entry of the distance matrix. -/
theorem dist_apply (q : FVec Ideal S1024x32 .f32) (p : FVec Ideal S100000x32 .f32) (i : Fin 1024) (j : Fin 100000) :
    dist q p (ix2 i j) = root ((∑ k : Fin 32, (q (ix2 i k) : EReal) * (q (ix2 i k) : EReal)) + (∑ k : Fin 32, (p (ix2 j k) : EReal) * (p (ix2 j k) : EReal))
      - Ideal.ofBits .f32 0x40000000#32 * ∑ k : Fin 32, (q (ix2 i k) : EReal) * (p (ix2 j k) : EReal)) := by
  unfold root
  pointwise [dist]

/-- For real arguments it is the root of the squared distance. -/
theorem dist_real (q : FVec Ideal S1024x32 .f32) (p : FVec Ideal S100000x32 .f32) (Q : Fin 1024 → Fin 32 → ℝ) (P : ℕ → Fin 32 → ℝ)
    (hQ : ∀ i k, q (ix2 i k) = (Q i k : EReal)) (hP : ∀ (r : Fin 100000) k, p (ix2 r k) = (P r.val k : EReal)) (i : Fin 1024) (j : Fin 100000) :
    dist q p (ix2 i j) = root (sqDist (Q i) (P j.val) : EReal) := by
  rw [dist_apply]
  simp only [hQ, hP, ofBits_two]
  exact congrArg root (expanded (Q i) (P j.val))

/-- The least distance of a query. -/
theorem least_apply (q : FVec Ideal S1024x32 .f32) (p : FVec Ideal S100000x32 .f32) (i : Fin 1024) :
    least q p (ix1 i) = Finset.univ.fold min (Ideal.ofBits .f32 0x7F800000#32) (fun j : Fin 100000 => (dist q p (ix2 i j) : EReal)) := by
  unfold least
  generalize dist q p = d
  pointwise []

theorem least_eq (q : FVec Ideal S1024x32 .f32) (p : FVec Ideal S100000x32 .f32) (i : Fin 1024) (f : ℕ → EReal)
    (hf : ∀ j : Fin 100000, dist q p (ix2 i j) = f j.val) {v : EReal} {j : ℕ} (h : IsFirst 0 100000 f v j) : least q p (ix1 i) = v := by
  rw [least_apply]
  refine fold_min_eq _ _ _ _ ?_ (fun x _ => ?_) ⟨⟨j, h.upper⟩, Finset.mem_univ _, ?_⟩
  · rw [show Ideal.ofBits .f32 0x7F800000#32 = ⊤ by simp [Ideal.ofBits, Ideal.ieee]]; exact le_top
  · rw [hf]; exact h.least _ (Nat.zero_le _) x.isLt
  · rw [hf]; exact h.here

end Cert.RefSide

end
-- ==== Proof.ArgMin.lean ====
/-
  A fold by the argmin's body answers the first of the least values, for any shapes.
-/
module

public import proofs.«01_k».proof.Proof.Reference
public import Idealize.ShloMosaic.Lib.Pointwise

@[expose] public section

noncomputable section

namespace Cert.RefSide

open Cert.ReferenceIdeal Cert.ReferenceIdeal.Gen Idealize.ShloMosaic

/-- `a` comes no later than `b`: a smaller value, or the same value at no greater position. -/
def Before (a b : EReal × BitVec 32) : Prop := a.1 < b.1 ∨ (a.1 = b.1 ∧ a.2.toInt ≤ b.2.toInt)

theorem Before.trans {a b c : EReal × BitVec 32} (h : Before a b) (h' : Before b c) : Before a c := by
  rcases h with h | ⟨h, g⟩ <;> rcases h' with h' | ⟨h', g'⟩
  · exact Or.inl (h.trans h')
  · exact Or.inl (h' ▸ h)
  · exact Or.inl (h ▸ h')
  · exact Or.inr ⟨h.trans h', g.trans g'⟩

theorem Before.refl (a : EReal × BitVec 32) : Before a a := Or.inr ⟨rfl, le_refl _⟩

theorem Before.antisymm {a b : EReal × BitVec 32} (h : Before a b) (h' : Before b a) : a = b := by
  rcases h with h | ⟨h, g⟩ <;> rcases h' with h' | ⟨h', g'⟩
  · exact absurd (h.trans h') (lt_irrefl _)
  · exact absurd h (by rw [h']; exact lt_irrefl _)
  · exact absurd h' (by rw [h]; exact lt_irrefl _)
  · exact Prod.ext h (BitVec.eq_of_toInt_eq (le_antisymm g g'))

/-- The body answers one of its two pairs, and one that comes no later than either. -/
theorem body_spec (a b : EReal × BitVec 32) : (reducer_argmin_f32_i32 (F := Ideal) a b = a ∨ reducer_argmin_f32_i32 (F := Ideal) a b = b)
    ∧ Before (reducer_argmin_f32_i32 (F := Ideal) a b) a ∧ Before (reducer_argmin_f32_i32 (F := Ideal) a b) b := by
  obtain ⟨x, w⟩ := a
  obtain ⟨y, z⟩ := b
  have e : reducer_argmin_f32_i32 (F := Ideal) (x, w) (y, z) = if x < y then (x, w) else if x = y ∧ w.toInt < z.toInt then (x, w) else (y, z) := by
    unfold reducer_argmin_f32_i32
    simp only [Ideal.cmpf_def, Ideal.cmp, IntOp.cmpi, IntOp.ori, IntOp.andi, Scalar.select, BitVec.slt_iff_toInt_lt]
    rcases lt_trichotomy x y with h | h | h
    · simp [h, h.ne]
    · subst h
      by_cases hw : w.toInt < z.toInt <;> simp [hw, BitVec.slt]
    · simp [h.not_gt, h.ne']
  rw [e]
  rcases lt_trichotomy x y with h | h | h
  · rw [if_pos h]
    exact ⟨Or.inl rfl, Before.refl _, Or.inl h⟩
  · subst h
    rw [if_neg (lt_irrefl _)]
    by_cases hw : w.toInt < z.toInt
    · rw [if_pos ⟨rfl, hw⟩]
      exact ⟨Or.inl rfl, Before.refl _, Or.inr ⟨rfl, hw.le⟩⟩
    · rw [if_neg (fun hh => hw hh.2)]
      exact ⟨Or.inr rfl, Or.inr ⟨rfl, not_lt.1 hw⟩, Before.refl _⟩
  · rw [if_neg h.not_gt, if_neg (fun hh => absurd hh.1 h.ne')]
    exact ⟨Or.inr rfl, Or.inl h, Before.refl _⟩

/-- A fold by the body answers the initial pair or a member, and one that comes no later than any. -/
theorem foldl_spec (l : List (EReal × BitVec 32)) : ∀ b : EReal × BitVec 32,
    (l.foldl (reducer_argmin_f32_i32 (F := Ideal)) b = b ∨ l.foldl (reducer_argmin_f32_i32 (F := Ideal)) b ∈ l)
    ∧ Before (l.foldl (reducer_argmin_f32_i32 (F := Ideal)) b) b ∧ ∀ x ∈ l, Before (l.foldl (reducer_argmin_f32_i32 (F := Ideal)) b) x := by
  induction l with
  | nil => exact fun b => ⟨Or.inl rfl, Before.refl _, fun x hx => absurd hx List.not_mem_nil⟩
  | cons a l ih =>
    intro b
    obtain ⟨h1, h2, h3⟩ := ih (reducer_argmin_f32_i32 (F := Ideal) b a)
    obtain ⟨g1, g2, g3⟩ := body_spec b a
    rw [List.foldl_cons]
    refine ⟨?_, h2.trans g2, fun x hx => ?_⟩
    · rcases h1 with h1 | h1
      · rw [h1]
        exact g1.imp id fun e => List.mem_cons.2 (Or.inl e)
      · exact Or.inr (List.mem_cons.2 (Or.inr h1))
    · rcases List.mem_cons.1 hx with rfl | hx
      · exact h2.trans g3
      · exact h3 x hx

/-- So it is a member that comes no later than any, once that member comes before the initial pair. -/
theorem foldl_eq (l : List (EReal × BitVec 32)) (b x : EReal × BitVec 32) (hx : x ∈ l) (hb : x.1 < b.1) (hl : ∀ y ∈ l, Before x y) :
    l.foldl (reducer_argmin_f32_i32 (F := Ideal)) b = x := by
  obtain ⟨h1, h2, h3⟩ := foldl_spec l b
  rcases h1 with h1 | h1
  · have := h3 x hx
    rw [h1] at this
    rcases this with h | ⟨h, _⟩
    · exact absurd (h.trans hb) (lt_irrefl _)
    · exact absurd hb (by rw [h]; exact lt_irrefl _)
  · exact (h3 x hx).antisymm (hl _ h1)

/-- The pairs the fold meets are those of the indices that reduce to `j`. -/
theorem mem_fiber {s t : Shape} {axes : List (Fin s.rank)} (x : s.Idx → EReal) (y : s.Idx → BitVec 32) (h : s.ReducesTo axes t) (j : t.Idx)
    (z : EReal × BitVec 32) : z ∈ Host.argReduceFiber x y h j ↔ ∃ i, h.drop i = j ∧ z = (x i, y i) := by
  unfold Host.argReduceFiber
  rw [List.mem_map]
  constructor
  · rintro ⟨n, hn, rfl⟩
    exact ⟨_, of_decide_eq_true (List.mem_filter.1 hn).2, rfl⟩
  · rintro ⟨i, hi, rfl⟩
    refine ⟨s.rowMajor i, List.mem_filter.2 ⟨List.mem_finRange _, decide_eq_true ?_⟩, ?_⟩
    · rw [Equiv.symm_apply_apply]; exact hi
    · rw [Equiv.symm_apply_apply]

/-- The argmin at `j` is a pair of an index that reduces to `j`, once it comes no later than any of them. -/
theorem argmin_eq {s t u : Shape} {axes : List (Fin s.rank)} (x : FVec Ideal s .f32) (y : IVec s 32) (ix : FVec Ideal u .f32) (iy : IVec u 32)
    (h : s.ReducesTo axes t) (hu : 0 < u.numel) (j : t.Idx) (i : s.Idx) (hi : h.drop i = j) (hb : (x i : EReal) < ix (Shape.Idx.first hu))
    (hl : ∀ k, h.drop k = j → Before (x i, y i) (x k, y k)) :
    Host.argReduce (reducer_argmin_f32_i32 (F := Ideal)) x y ix iy h hu j = (x i, y i) := by
  rw [Ideal.argReduce_eq_reduce2, Host.reduce2_eq_foldl_fiber]
  refine foldl_eq _ _ _ ((mem_fiber _ _ _ _ _).2 ⟨i, hi, rfl⟩) hb fun z hz => ?_
  obtain ⟨k, hk, rfl⟩ := (mem_fiber _ _ _ _ _).1 hz
  exact hl k hk

end Cert.RefSide

end
-- ==== Proof.Fibers.lean ====
/-
  The parts of the reference's argmin at its own shapes: the candidates of a query, their numbers and the initial value.
-/
module

public import proofs.«01_k».proof.Proof.Reference
public import Idealize.ShloMosaic.Lib.Pointwise

@[expose] public section

noncomputable section

namespace Cert.RefSide

open Cert.ReferenceIdeal Cert.ReferenceIdeal.Gen Idealize.ShloMosaic

/-- The indices that reduce to query `i`. -/
theorem drop_iff (i : Fin 1024) (y : S1024x100000.Idx) :
    reducesTo_S1024x100000_S1024_d1.drop y = (ix1 i : S1024.Idx) ↔ ∃ b : Fin 100000, y = ix2 i b := by
  have hr : S1024x100000.Reduces [1] S1024 := by decide
  have lift_eq : ∀ b : Fin 100000, hr.lift (ix1 i) b = (ix2 i b : S1024x100000.Idx) := fun b => by
    funext c
    fin_cases c <;> rfl
  rw [Shape.ReducesTo.drop_eq_drop reducesTo_S1024x100000_S1024_d1 hr]
  exact ⟨fun e => ⟨y 1, ((hr.lift_drop y).symm.trans (by rw [e])).trans (lift_eq (y 1))⟩,
    fun ⟨b, e⟩ => by rw [e, ← lift_eq]; exact hr.drop_lift _ _⟩

theorem toInt_small (n : ℕ) (hn : n < 100000) : (BitVec.ofNat 32 n).toInt = (n : ℤ) := by
  rw [BitVec.toInt_eq_toNat_of_lt (by rw [BitVec.toNat_ofNat]; omega), BitVec.toNat_ofNat, Nat.mod_eq_of_lt (by omega)]

theorem number_apply (i : Fin 1024) (b : Fin 100000) : iotaInDim S1024x100000 32 1 (ix2 i b) = BitVec.ofNat 32 b.val := by
  pointwise []

theorem start_apply : constant (F := Ideal) S_ .f32 0x7F800000#32 (Shape.Idx.first h_S_) = (⊤ : EReal) := by
  show Ideal.ofBits .f32 0x7F800000#32 = ⊤
  simp [Ideal.ofBits, Ideal.ieee]

end Cert.RefSide

end
-- ==== Proof.PositionValue.lean ====
/-
  The reference's argmin, by value: the first candidate that attains the least distance.
-/
module

public import proofs.«01_k».proof.Proof.ArgMin
public import proofs.«01_k».proof.Proof.Fibers
public import proofs.«01_k».proof.Proof.FirstMin
public import Idealize.ShloMosaic.Lib.Pointwise

@[expose] public section

noncomputable section

namespace Cert.RefSide

open Cert.ReferenceIdeal Cert.ReferenceIdeal.Gen Idealize.ShloMosaic Cert.FirstMin

/-- The candidate that attains the least distance comes no later than any candidate. -/
theorem first_before (q : FVec Ideal S1024x32 .f32) (p : FVec Ideal S100000x32 .f32) (i : Fin 1024) (f : ℕ → EReal)
    (hf : ∀ j : Fin 100000, dist q p (ix2 i j) = f j.val) {v : EReal} {j : ℕ} (h : IsFirst 0 100000 f v j) (b : Fin 100000) :
    Before (dist q p (ix2 i ⟨j, h.upper⟩), iotaInDim S1024x100000 32 1 (ix2 i (⟨j, h.upper⟩ : Fin 100000)))
      (dist q p (ix2 i b), iotaInDim S1024x100000 32 1 (ix2 i b)) := by
  rw [number_apply, number_apply, hf, hf]
  rcases (h.least b.val (Nat.zero_le _) b.isLt).lt_or_eq with hlt | heq
  · exact Or.inl (h.here ▸ hlt)
  · refine Or.inr ⟨h.here.trans heq, ?_⟩
    rw [toInt_small _ h.upper, toInt_small _ b.isLt]
    by_contra hn
    have := h.first b.val (Nat.zero_le _) (by omega)
    exact absurd this (by rw [heq]; exact lt_irrefl _)

/-- The pairs the reference's argmin answers. -/
def found (q : FVec Ideal S1024x32 .f32) (p : FVec Ideal S100000x32 .f32) : S1024.Idx → EReal × BitVec 32 :=
  Host.argReduce (reducer_argmin_f32_i32 (F := Ideal)) (dist q p) (iotaInDim S1024x100000 32 1) (constant S_ .f32 0x7F800000#32) (constantI S_ 32 0#32)
    reducesTo_S1024x100000_S1024_d1 h_S_

/-- The positions are their second components. -/
theorem position_def (q : FVec Ideal S1024x32 .f32) (p : FVec Ideal S100000x32 .f32) : position q p = fun j => (found q p j).2 := rfl

/-- The pair at a query, once some candidate comes no later than any. -/
theorem found_of_before (q : FVec Ideal S1024x32 .f32) (p : FVec Ideal S100000x32 .f32) (i : Fin 1024) (j : Fin 100000)
    (hb : (dist q p (ix2 i j) : EReal) < ⊤)
    (hl : ∀ b : Fin 100000, Before (dist q p (ix2 i j), iotaInDim S1024x100000 32 1 (ix2 i j))
      (dist q p (ix2 i b), iotaInDim S1024x100000 32 1 (ix2 i b))) :
    found q p (ix1 i) = (dist q p (ix2 i j), iotaInDim S1024x100000 32 1 (ix2 i j)) := by
  refine argmin_eq (dist q p) _ _ _ _ _ _ _ ((drop_iff i _).2 ⟨_, rfl⟩) ?_ fun k hk => ?_
  · rw [start_apply]; exact hb
  · obtain ⟨b, rfl⟩ := (drop_iff i k).1 hk
    exact hl b

/-- The position of a query's least distance. -/
theorem position_eq (q : FVec Ideal S1024x32 .f32) (p : FVec Ideal S100000x32 .f32) (i : Fin 1024) (f : ℕ → EReal)
    (hf : ∀ j : Fin 100000, dist q p (ix2 i j) = f j.val) {v : EReal} (hv : v < ⊤) {j : ℕ} (h : IsFirst 0 100000 f v j) :
    position q p (ix1 i) = BitVec.ofNat 32 j := by
  have e : (found q p (ix1 i)).2 = BitVec.ofNat 32 j := by
    rw [found_of_before q p i ⟨j, h.upper⟩ (by rw [hf]; exact h.here.trans_lt hv) (first_before q p i f hf h)]
    exact number_apply i ⟨j, h.upper⟩
  rw [position_def]
  exact e

end Cert.RefSide

end
-- ==== Proof.Finite.lean ====
/-
  The precondition's first two outputs: every element of both arguments is a real number.
-/
module

public import proofs.«01_k».proof.Defs
public import proofs.«01_k».proof.Proof.Gen.Pre_no_tie
public import Idealize.ShloMosaic.Lib.ReduceAll
public import Idealize.ShloMosaic.Lib.Pointwise

@[expose] public section

noncomputable section

namespace Cert.Finite

open Cert.Pre_no_tie Cert.Pre_no_tie.Gen Idealize.ShloMosaic

instance : Subsingleton S_.Idx := ⟨fun a b => funext fun i => i.elim0⟩

/-- An extended real whose absolute value is below infinity is a real. -/
theorem real_of_abs_lt (x : EReal) (h : Ideal.cmp .olt (max x (-x)) (Ideal.ofBits .f32 0x7F800000#32) = 1#1) : x = (x.toReal : EReal) := by
  rw [show Ideal.ofBits .f32 0x7F800000#32 = ⊤ by simp [Ideal.ofBits, Ideal.ieee]] at h
  have h' : max x (-x) < ⊤ := by
    by_contra hn
    simp [Ideal.cmp, hn] at h
  refine (EReal.coe_toReal (fun e => ?_) (fun e => ?_)).symm
  · rw [e] at h'; simp at h'
  · rw [e] at h'; simp at h'

/-- Every element of the first argument is a real. -/
theorem queries_real (q : FVec Ideal S1024x32 .f32) (p : FVec Ideal S100000x32 .f32)
    (h : (fn (F := Ideal) q p).1 = fun _ => 1#1) (i : S1024x32.Idx) : (q i : EReal) = ((q i : EReal).toReal : EReal) := by
  refine real_of_abs_lt _ ?_
  have e : (fn (F := Ideal) q p).1 = Host.reduce IntOp.andi (cmpf .olt (Host.absf q) (broadcastInDim S1024x32 ![] bcast_S_S1024x32 (constant S_ .f32 0x7F800000#32)))
      (constantI S_ 1 1#1) reducesTo_S1024x32_S_d0_1 h_S_ := by
    unfold fn fn_part1
    dsimp only
  rw [e] at h
  exact Host.reduce_andi_all _ _ reducesTo_S1024x32_S_d0_1 h_S_ (fun a => a.elim0) (congrFun h _) i

/-- Every element of the second argument is a real. -/
theorem cands_real (q : FVec Ideal S1024x32 .f32) (p : FVec Ideal S100000x32 .f32)
    (h : (fn (F := Ideal) q p).2.1 = fun _ => 1#1) (i : S100000x32.Idx) : (p i : EReal) = ((p i : EReal).toReal : EReal) := by
  refine real_of_abs_lt _ ?_
  have e : (fn (F := Ideal) q p).2.1 = Host.reduce IntOp.andi (cmpf .olt (Host.absf p) (broadcastInDim S100000x32 ![] bcast_S_S100000x32 (constant S_ .f32 0x7F800000#32)))
      (constantI S_ 1 1#1) reducesTo_S100000x32_S_d0_1 h_S_ := by
    unfold fn fn_part1
    dsimp only
  rw [e] at h
  exact Host.reduce_andi_all _ _ reducesTo_S100000x32_S_d0_1 h_S_ (fun a => a.elim0) (congrFun h _) i

end Cert.Finite

end
-- ==== Proof.Columns.lean ====
/-
  Both sides' result columns, read at one query.
-/
module

public import proofs.«01_k».proof.Proof.KernelRun
public import proofs.«01_k».proof.Proof.Reference
public import proofs.«01_k».proof.Proof.Squares
public import Idealize.ShloMosaic.Lib.Pointwise

@[expose] public section

noncomputable section

namespace Cert.Columns

open Idealize.ShloMosaic Cert.Squares

section Kernel

open Cert.KernelIdeal Cert.KernelIdeal.Gen

/-- The kernel's row of distances, as a column. -/
theorem kernel_root (w : Vec Ideal S1x1024 .f32) (i : Fin 1024) :
    shapeCast S1024x1 (k0_pay1 w) shapeCasts_S1x1024_S1024x1 (ix2 i (0 : Fin 1)) = root (w (ix2 (0 : Fin 1) i)) := by
  unfold root
  pointwise [k0_pay1]

/-- The kernel's row of positions, as a column. -/
theorem kernel_position (w : IVec S1x1024 32) (i : Fin 1024) :
    shapeCast S1024x1 w shapeCasts_S1x1024_S1024x1 (ix2 i (0 : Fin 1)) = w (ix2 (0 : Fin 1) i) := by
  pointwise []

end Kernel

section Reference

open Cert.ReferenceIdeal Cert.ReferenceIdeal.Gen

/-- The reference's distances, as a column. -/
theorem reference_least (w : FVec Ideal S1024 .f32) (i : Fin 1024) :
    shapeCast S1024x1 w shapeCasts_S1024_S1024x1 (ix2 i (0 : Fin 1)) = w (ix1 i) := by
  pointwise []

/-- The reference's positions, as a column. -/
theorem reference_position (w : IVec S1024 32) (i : Fin 1024) :
    broadcastInDim S1024x1 ![0] bcast_S1024_S1024x1_0 w (ix2 i (0 : Fin 1)) = w (ix1 i) := by
  pointwise []

end Reference

/-- Two columns are equal once they agree at every query. -/
theorem ext_column {α : Type} (a b : Shape.Idx ⟨2, ![1024, 1]⟩ → α) (h : ∀ i : Fin 1024, a (ix2 i (0 : Fin 1)) = b (ix2 i (0 : Fin 1))) : a = b := by
  funext k
  have e : k = ix2 (k 0 : Fin 1024) (0 : Fin 1) := by
    funext d
    fin_cases d
    · rfl
    · exact Subsingleton.elim (α := Fin 1) _ _
  rw [e]
  exact h _

end Cert.Columns

end
-- ==== Proof.Equation.lean ====
/-
  The two results are the same on both sides: the least distance of each query, and the first candidate that attains it.
-/
module

public import proofs.«01_k».proof.Proof.Carried
public import proofs.«01_k».proof.Proof.ReferenceValue
public import proofs.«01_k».proof.Proof.PositionValue
public import proofs.«01_k».proof.Proof.Finite
public import proofs.«01_k».proof.Proof.Columns

@[expose] public section

noncomputable section

namespace Cert.Equation

open Cert.KernelIdeal Cert.KernelIdeal.Gen Idealize.ShloMosaic Idealize.ShloMosaic.TcCoe Cert.KernelSide Cert.Squares Cert.FirstMin

variable (m : (ℓ : Loc nD τ sig) → Buf (Elt Ideal) ℓ)

/-- Under the precondition both arguments are copies of real arrays. -/
theorem real_arguments (hm : Cert.Pre_KernelIdeal m) (c : Dev nD) : ∃ (Q : Fin 1024 → Fin 32 → ℝ) (P : ℕ → Fin 32 → ℝ),
    (∀ i k, queries m c (ix2 i k) = (Q i k : EReal)) ∧ ∀ (r : Fin 100000) k, cands m c (ix2 r k) = (P r.val k : EReal) := by
  refine ⟨fun i k => (queries m c (ix2 i k) : EReal).toReal, fun r k => if h : r < 100000 then (cands m c (ix2 (⟨r, h⟩ : Fin 100000) k) : EReal).toReal else 0,
    fun i k => Cert.Finite.queries_real _ _ (hm c).1 _, fun r k => ?_⟩
  beta_reduce
  rw [dif_pos r.isLt]
  exact Cert.Finite.cands_real _ _ (hm c).2.1 _

/-- At each query both sides hold the same distance and the same position. -/
theorem query_eq (hm : Cert.Pre_KernelIdeal m) (c : Dev nD) (i : Fin 1024) :
    Cert.RefSide.least (queries m c) (cands m c) (ix1 i) = root (accMin m c 4 last_lt (ix2 (0 : Fin 1) i))
    ∧ Cert.RefSide.position (queries m c) (cands m c) (ix1 i) = accIdx m c 4 last_lt (ix2 (0 : Fin 1) i) := by
  obtain ⟨Q, P, hQ, hP⟩ := real_arguments m hm c
  obtain ⟨v, j, h, hv, hj⟩ := carried_first m c Q P hQ hP i 4 last_lt
  have h' : IsFirst 0 100000 (fun r => root (sqDist (Q i) (P r) : EReal)) (root v) j :=
    h.map root fun k l _ _ hkl => root_lt _ _ (sqDist_nonneg _ _) hkl
  have hd : ∀ r : Fin 100000, Cert.RefSide.dist (queries m c) (cands m c) (ix2 i r) = root (sqDist (Q i) (P r.val) : EReal) :=
    fun r => Cert.RefSide.dist_real _ _ Q P hQ hP i r
  have ht : root v < ⊤ := by
    rw [← h.here, root_coe _ (sqDist_nonneg _ _)]
    exact EReal.coe_lt_top _
  rw [hv, hj]
  exact ⟨Cert.RefSide.least_eq _ _ i _ hd h', Cert.RefSide.position_eq _ _ i _ hd ht h'⟩

/-- The first result. -/
theorem first_eq (hm : Cert.Pre_KernelIdeal m) (c : Dev nD) : Cert.RefSide.out0 (queries m c) (cands m c) = out0 m c := by
  refine Cert.Columns.ext_column _ _ fun i => ?_
  unfold Cert.RefSide.out0 out0
  rw [Cert.Columns.kernel_root, Cert.Columns.reference_least]
  exact (query_eq m hm c i).1

/-- The two columns of positions. -/
theorem position_column (hm : Cert.Pre_KernelIdeal m) (c : Dev nD) :
    broadcastInDim S1024x1 ![0] Cert.ReferenceIdeal.Gen.bcast_S1024_S1024x1_0 (Cert.RefSide.position (queries m c) (cands m c))
      = shapeCast S1024x1 (accIdx m c 4 last_lt : IVec S1x1024 32) shapeCasts_S1x1024_S1024x1 := by
  refine Cert.Columns.ext_column _ _ fun i => ?_
  rw [Cert.Columns.kernel_position, Cert.Columns.reference_position]
  exact (query_eq m hm c i).2

/-- The second result. -/
theorem second_eq (hm : Cert.Pre_KernelIdeal m) (c : Dev nD) : Cert.RefSide.out1 (queries m c) (cands m c) = out1 m c := by
  unfold Cert.RefSide.out1 out1
  rw [position_column m hm c]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie
public import proofs.«01_k».proof.Proof.Equation
public import Idealize.ShloMosaic.Adequacy
public import Idealize.ShloMosaic.Init

@[expose] public section

noncomputable section

namespace Cert.Proof

open Idealize.ShloMosaic Idealize.SL.Sem Cert.Kernel

/-- From the same two arguments the kernel and the reference end with the same two results. -/
theorem algebraic : Cert.algebraic_KernelIdeal_ReferenceIdeal := by
  intro m g m' g' hm hagree
  refine ⟨Cert.KernelSide.out0 m, Cert.KernelSide.out1 m, Cert.KernelSide.run m g, ?_⟩
  refine (θ_run _ _ _).mono (fun r h c => ?_) (Cert.RefSide.run m' g')
  obtain ⟨h0, h1, ha, hb⟩ := h c
  rw [(hagree c).1, (hagree c).2] at h0 h1
  exact ⟨h0.trans (Cert.Equation.first_eq m hm c), h1.trans (Cert.Equation.second_eq m hm c), ha, hb⟩

theorem claim : Cert.Claim := ⟨Cert.Kernel.Gen.facts, Cert.KernelIdeal.Gen.facts, Cert.ReferenceIdeal.Gen.facts, Cert.Pre_no_tie.Gen.facts,
  fun m g _ => Cert.Kernel.Gen.frame m g, fun m g _ => Cert.Kernel.Gen.frame m g, fun m g _ => Cert.KernelIdeal.Gen.frame m g,
  fun m g _ => Cert.RefSide.runZero m g, fun m g _ => Cert.RefSide.runZero m g, trivial, algebraic⟩

end Cert.Proof

end
